-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![4096, 4096]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S2048x2048 : Shape := ⟨2, ![2048, 2048]⟩
abbrev S2x2048x256 : Shape := ⟨3, ![2, 2048, 256]⟩
abbrev S4x2048x256 : Shape := ⟨3, ![4, 2048, 256]⟩
abbrev S4 : Shape := ⟨1, ![4]⟩
abbrev S17 : Shape := ⟨1, ![17]⟩
abbrev S1 : Shape := ⟨1, ![1]⟩
abbrev S_ : Shape := ⟨0, ![]⟩
abbrev S1x2048x128 : Shape := ⟨3, ![1, 2048, 128]⟩
abbrev S2048x128 : Shape := ⟨2, ![2048, 128]⟩
abbrev S2048x512 : Shape := ⟨2, ![2048, 512]⟩
abbrev S1x2048x256 : Shape := ⟨3, ![1, 2048, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .bf16⟩
  | .local _ .vmem, ⟨0, _⟩ => ⟨S2048x2048, .f32⟩
  | .local _ .vmem, ⟨1, _⟩ => ⟨S2048x2048, .bf16⟩
  | .local _ .vmem, ⟨2, _⟩ => ⟨S2x2048x256, .f32⟩
  | .local _ .vmem, ⟨3, _⟩ => ⟨S2x2048x256, .bf16⟩
  | .local _ .vmem, ⟨4, _⟩ => ⟨S4x2048x256, .bf16⟩
  | .local _ .vmem, ⟨5, _⟩ => ⟨S2x2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  (ofTc nBuf bufTy 1 106 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c0_i32_12 : BitVec 32 := 0#32
  ![v8.toNat, 0]
def k0_off2 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c512_i32_15 : BitVec 32 := 512#32
  ![v8.toNat, 512]
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c1024_i32_18 : BitVec 32 := 1024#32
  ![v8.toNat, 1024]
def k0_off4 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c1536_i32_20 : BitVec 32 := 1536#32
  ![v8.toNat, 1536]
def k0_dev1 (d0 : Dev nD) : Nat :=
  let c0_i32_23 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_22 : BitVec 32 := 2#32
  let v31 : BitVec 32 := Scalar.muli v6 c2_i32_22
  let v32 : BitVec 32 := Scalar.addi c0_i32_23 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v33 : BitVec 32 := Scalar.muli v5 c1_i32_24
  let v34 : BitVec 32 := Scalar.addi v32 v33
  v34.toNat
def k0_dev2 (d0 : Dev nD) : Nat :=
  let c0_i32_27 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_26 : BitVec 32 := 2#32
  let v35 : BitVec 32 := Scalar.muli v2 c2_i32_26
  let v36 : BitVec 32 := Scalar.addi c0_i32_27 v35
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_28 : BitVec 32 := 1#32
  let v37 : BitVec 32 := Scalar.muli v7 c1_i32_28
  let v38 : BitVec 32 := Scalar.addi v36 v37
  v38.toNat
def k0_dev3 (d0 : Dev nD) : Nat :=
  let c0_i32_82 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_81 : BitVec 32 := 2#32
  let v94 : BitVec 32 := Scalar.muli v6 c2_i32_81
  let v95 : BitVec 32 := Scalar.addi c0_i32_82 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let v96 : BitVec 32 := Scalar.muli v5 c1_i32_83
  let v97 : BitVec 32 := Scalar.addi v95 v96
  v97.toNat
def k0_dev4 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v125 : BitVec 32 := Scalar.muli v6 c2_i32_111
  let v126 : BitVec 32 := Scalar.addi c0_i32_112 v125
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v127 : BitVec 32 := Scalar.muli v5 c1_i32_113
  let v128 : BitVec 32 := Scalar.addi v126 v127
  v128.toNat
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c0_i32_140 : BitVec 32 := 0#32
  ![v8.toNat, 0]
def k0_dev5 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v160 : BitVec 32 := Scalar.muli v2 c2_i32_146
  let v161 : BitVec 32 := Scalar.addi c0_i32_147 v160
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_148 : BitVec 32 := 1#32
  let v162 : BitVec 32 := Scalar.muli v7 c1_i32_148
  let v163 : BitVec 32 := Scalar.addi v161 v162
  v163.toNat
def k0_dev6 (d0 : Dev nD) : Nat :=
  let c0_i32_186 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_185 : BitVec 32 := 2#32
  let v196 : BitVec 32 := Scalar.muli v6 c2_i32_185
  let v197 : BitVec 32 := Scalar.addi c0_i32_186 v196
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_187 : BitVec 32 := 1#32
  let v198 : BitVec 32 := Scalar.muli v5 c1_i32_187
  let v199 : BitVec 32 := Scalar.addi v197 v198
  v199.toNat
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c128_i32_214 : BitVec 32 := 128#32
  ![v8.toNat, 128]
def k0_dev7 (d0 : Dev nD) : Nat :=
  let c0_i32_221 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_220 : BitVec 32 := 2#32
  let v231 : BitVec 32 := Scalar.muli v2 c2_i32_220
  let v232 : BitVec 32 := Scalar.addi c0_i32_221 v231
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_222 : BitVec 32 := 1#32
  let v233 : BitVec 32 := Scalar.muli v7 c1_i32_222
  let v234 : BitVec 32 := Scalar.addi v232 v233
  v234.toNat
def k0_dev8 (d0 : Dev nD) : Nat :=
  let c0_i32_259 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_258 : BitVec 32 := 2#32
  let v267 : BitVec 32 := Scalar.muli v6 c2_i32_258
  let v268 : BitVec 32 := Scalar.addi c0_i32_259 v267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v269 : BitVec 32 := Scalar.muli v5 c1_i32_260
  let v270 : BitVec 32 := Scalar.addi v268 v269
  v270.toNat
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c384_i32_298 : BitVec 32 := 384#32
  ![v8.toNat, 384]
def k0_dev9 (d0 : Dev nD) : Nat :=
  let c0_i32_305 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_304 : BitVec 32 := 2#32
  let v312 : BitVec 32 := Scalar.muli v2 c2_i32_304
  let v313 : BitVec 32 := Scalar.addi c0_i32_305 v312
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_306 : BitVec 32 := 1#32
  let v314 : BitVec 32 := Scalar.muli v7 c1_i32_306
  let v315 : BitVec 32 := Scalar.addi v313 v314
  v315.toNat
def k0_dev10 (d0 : Dev nD) : Nat :=
  let c0_i32_343 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_342 : BitVec 32 := 2#32
  let v348 : BitVec 32 := Scalar.muli v6 c2_i32_342
  let v349 : BitVec 32 := Scalar.addi c0_i32_343 v348
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_344 : BitVec 32 := 1#32
  let v350 : BitVec 32 := Scalar.muli v5 c1_i32_344
  let v351 : BitVec 32 := Scalar.addi v349 v350
  v351.toNat
def k0_off8 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c640_i32_382 : BitVec 32 := 640#32
  ![v8.toNat, 640]
def k0_dev11 (d0 : Dev nD) : Nat :=
  let c0_i32_389 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_388 : BitVec 32 := 2#32
  let v393 : BitVec 32 := Scalar.muli v2 c2_i32_388
  let v394 : BitVec 32 := Scalar.addi c0_i32_389 v393
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_390 : BitVec 32 := 1#32
  let v395 : BitVec 32 := Scalar.muli v7 c1_i32_390
  let v396 : BitVec 32 := Scalar.addi v394 v395
  v396.toNat
def k0_dev12 (d0 : Dev nD) : Nat :=
  let c0_i32_427 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_426 : BitVec 32 := 2#32
  let v429 : BitVec 32 := Scalar.muli v6 c2_i32_426
  let v430 : BitVec 32 := Scalar.addi c0_i32_427 v429
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_428 : BitVec 32 := 1#32
  let v431 : BitVec 32 := Scalar.muli v5 c1_i32_428
  let v432 : BitVec 32 := Scalar.addi v430 v431
  v432.toNat
def k0_off9 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c896_i32_467 : BitVec 32 := 896#32
  ![v8.toNat, 896]
def k0_dev13 (d0 : Dev nD) : Nat :=
  let c0_i32_474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_473 : BitVec 32 := 2#32
  let v474 : BitVec 32 := Scalar.muli v2 c2_i32_473
  let v475 : BitVec 32 := Scalar.addi c0_i32_474 v474
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_475 : BitVec 32 := 1#32
  let v476 : BitVec 32 := Scalar.muli v7 c1_i32_475
  let v477 : BitVec 32 := Scalar.addi v475 v476
  v477.toNat
def k0_dev14 (d0 : Dev nD) : Nat :=
  let c0_i32_512 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_511 : BitVec 32 := 2#32
  let v510 : BitVec 32 := Scalar.muli v6 c2_i32_511
  let v511 : BitVec 32 := Scalar.addi c0_i32_512 v510
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_513 : BitVec 32 := 1#32
  let v512 : BitVec 32 := Scalar.muli v5 c1_i32_513
  let v513 : BitVec 32 := Scalar.addi v511 v512
  v513.toNat
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c1152_i32_552 : BitVec 32 := 1152#32
  ![v8.toNat, 1152]
def k0_dev15 (d0 : Dev nD) : Nat :=
  let c0_i32_559 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_558 : BitVec 32 := 2#32
  let v555 : BitVec 32 := Scalar.muli v2 c2_i32_558
  let v556 : BitVec 32 := Scalar.addi c0_i32_559 v555
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_560 : BitVec 32 := 1#32
  let v557 : BitVec 32 := Scalar.muli v7 c1_i32_560
  let v558 : BitVec 32 := Scalar.addi v556 v557
  v558.toNat
def k0_dev16 (d0 : Dev nD) : Nat :=
  let c0_i32_597 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_596 : BitVec 32 := 2#32
  let v591 : BitVec 32 := Scalar.muli v6 c2_i32_596
  let v592 : BitVec 32 := Scalar.addi c0_i32_597 v591
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_598 : BitVec 32 := 1#32
  let v593 : BitVec 32 := Scalar.muli v5 c1_i32_598
  let v594 : BitVec 32 := Scalar.addi v592 v593
  v594.toNat
def k0_off11 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c1408_i32_637 : BitVec 32 := 1408#32
  ![v8.toNat, 1408]
def k0_dev17 (d0 : Dev nD) : Nat :=
  let c0_i32_644 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_643 : BitVec 32 := 2#32
  let v636 : BitVec 32 := Scalar.muli v2 c2_i32_643
  let v637 : BitVec 32 := Scalar.addi c0_i32_644 v636
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_645 : BitVec 32 := 1#32
  let v638 : BitVec 32 := Scalar.muli v7 c1_i32_645
  let v639 : BitVec 32 := Scalar.addi v637 v638
  v639.toNat
def k0_dev18 (d0 : Dev nD) : Nat :=
  let c0_i32_682 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_681 : BitVec 32 := 2#32
  let v672 : BitVec 32 := Scalar.muli v6 c2_i32_681
  let v673 : BitVec 32 := Scalar.addi c0_i32_682 v672
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_683 : BitVec 32 := 1#32
  let v674 : BitVec 32 := Scalar.muli v5 c1_i32_683
  let v675 : BitVec 32 := Scalar.addi v673 v674
  v675.toNat
def k0_off12 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c1664_i32_722 : BitVec 32 := 1664#32
  ![v8.toNat, 1664]
def k0_dev19 (d0 : Dev nD) : Nat :=
  let c0_i32_729 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_728 : BitVec 32 := 2#32
  let v717 : BitVec 32 := Scalar.muli v2 c2_i32_728
  let v718 : BitVec 32 := Scalar.addi c0_i32_729 v717
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_730 : BitVec 32 := 1#32
  let v719 : BitVec 32 := Scalar.muli v7 c1_i32_730
  let v720 : BitVec 32 := Scalar.addi v718 v719
  v720.toNat
def k0_dev20 (d0 : Dev nD) : Nat :=
  let c0_i32_767 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_766 : BitVec 32 := 2#32
  let v753 : BitVec 32 := Scalar.muli v6 c2_i32_766
  let v754 : BitVec 32 := Scalar.addi c0_i32_767 v753
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_768 : BitVec 32 := 1#32
  let v755 : BitVec 32 := Scalar.muli v5 c1_i32_768
  let v756 : BitVec 32 := Scalar.addi v754 v755
  v756.toNat
def k0_off13 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c1920_i32_807 : BitVec 32 := 1920#32
  ![v8.toNat, 1920]
def k0_dev21 (d0 : Dev nD) : Nat :=
  let c0_i32_814 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_813 : BitVec 32 := 2#32
  let v798 : BitVec 32 := Scalar.muli v2 c2_i32_813
  let v799 : BitVec 32 := Scalar.addi c0_i32_814 v798
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_815 : BitVec 32 := 1#32
  let v800 : BitVec 32 := Scalar.muli v7 c1_i32_815
  let v801 : BitVec 32 := Scalar.addi v799 v800
  v801.toNat
def k0_dev22 (d0 : Dev nD) : Nat :=
  let c0_i32_852 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_851 : BitVec 32 := 2#32
  let v834 : BitVec 32 := Scalar.muli v6 c2_i32_851
  let v835 : BitVec 32 := Scalar.addi c0_i32_852 v834
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_853 : BitVec 32 := 1#32
  let v836 : BitVec 32 := Scalar.muli v5 c1_i32_853
  let v837 : BitVec 32 := Scalar.addi v835 v836
  v837.toNat
def k0_off14 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c2176_i32_892 : BitVec 32 := 2176#32
  ![v8.toNat, 2176]
def k0_dev23 (d0 : Dev nD) : Nat :=
  let c0_i32_899 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_898 : BitVec 32 := 2#32
  let v879 : BitVec 32 := Scalar.muli v2 c2_i32_898
  let v880 : BitVec 32 := Scalar.addi c0_i32_899 v879
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_900 : BitVec 32 := 1#32
  let v881 : BitVec 32 := Scalar.muli v7 c1_i32_900
  let v882 : BitVec 32 := Scalar.addi v880 v881
  v882.toNat
def k0_dev24 (d0 : Dev nD) : Nat :=
  let c0_i32_937 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_936 : BitVec 32 := 2#32
  let v915 : BitVec 32 := Scalar.muli v6 c2_i32_936
  let v916 : BitVec 32 := Scalar.addi c0_i32_937 v915
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_938 : BitVec 32 := 1#32
  let v917 : BitVec 32 := Scalar.muli v5 c1_i32_938
  let v918 : BitVec 32 := Scalar.addi v916 v917
  v918.toNat
def k0_off15 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c2432_i32_977 : BitVec 32 := 2432#32
  ![v8.toNat, 2432]
def k0_dev25 (d0 : Dev nD) : Nat :=
  let c0_i32_984 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_983 : BitVec 32 := 2#32
  let v960 : BitVec 32 := Scalar.muli v2 c2_i32_983
  let v961 : BitVec 32 := Scalar.addi c0_i32_984 v960
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_985 : BitVec 32 := 1#32
  let v962 : BitVec 32 := Scalar.muli v7 c1_i32_985
  let v963 : BitVec 32 := Scalar.addi v961 v962
  v963.toNat
def k0_dev26 (d0 : Dev nD) : Nat :=
  let c0_i32_1022 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1021 : BitVec 32 := 2#32
  let v996 : BitVec 32 := Scalar.muli v6 c2_i32_1021
  let v997 : BitVec 32 := Scalar.addi c0_i32_1022 v996
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1023 : BitVec 32 := 1#32
  let v998 : BitVec 32 := Scalar.muli v5 c1_i32_1023
  let v999 : BitVec 32 := Scalar.addi v997 v998
  v999.toNat
def k0_off16 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c2688_i32_1062 : BitVec 32 := 2688#32
  ![v8.toNat, 2688]
def k0_dev27 (d0 : Dev nD) : Nat :=
  let c0_i32_1069 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1068 : BitVec 32 := 2#32
  let v1041 : BitVec 32 := Scalar.muli v2 c2_i32_1068
  let v1042 : BitVec 32 := Scalar.addi c0_i32_1069 v1041
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1070 : BitVec 32 := 1#32
  let v1043 : BitVec 32 := Scalar.muli v7 c1_i32_1070
  let v1044 : BitVec 32 := Scalar.addi v1042 v1043
  v1044.toNat
def k0_dev28 (d0 : Dev nD) : Nat :=
  let c0_i32_1107 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1106 : BitVec 32 := 2#32
  let v1077 : BitVec 32 := Scalar.muli v6 c2_i32_1106
  let v1078 : BitVec 32 := Scalar.addi c0_i32_1107 v1077
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1108 : BitVec 32 := 1#32
  let v1079 : BitVec 32 := Scalar.muli v5 c1_i32_1108
  let v1080 : BitVec 32 := Scalar.addi v1078 v1079
  v1080.toNat
def k0_off17 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c2944_i32_1147 : BitVec 32 := 2944#32
  ![v8.toNat, 2944]
def k0_dev29 (d0 : Dev nD) : Nat :=
  let c0_i32_1154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1153 : BitVec 32 := 2#32
  let v1122 : BitVec 32 := Scalar.muli v2 c2_i32_1153
  let v1123 : BitVec 32 := Scalar.addi c0_i32_1154 v1122
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1155 : BitVec 32 := 1#32
  let v1124 : BitVec 32 := Scalar.muli v7 c1_i32_1155
  let v1125 : BitVec 32 := Scalar.addi v1123 v1124
  v1125.toNat
def k0_dev30 (d0 : Dev nD) : Nat :=
  let c0_i32_1192 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1191 : BitVec 32 := 2#32
  let v1158 : BitVec 32 := Scalar.muli v6 c2_i32_1191
  let v1159 : BitVec 32 := Scalar.addi c0_i32_1192 v1158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1193 : BitVec 32 := 1#32
  let v1160 : BitVec 32 := Scalar.muli v5 c1_i32_1193
  let v1161 : BitVec 32 := Scalar.addi v1159 v1160
  v1161.toNat
def k0_off18 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c3200_i32_1232 : BitVec 32 := 3200#32
  ![v8.toNat, 3200]
def k0_dev31 (d0 : Dev nD) : Nat :=
  let c0_i32_1239 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1238 : BitVec 32 := 2#32
  let v1203 : BitVec 32 := Scalar.muli v2 c2_i32_1238
  let v1204 : BitVec 32 := Scalar.addi c0_i32_1239 v1203
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1240 : BitVec 32 := 1#32
  let v1205 : BitVec 32 := Scalar.muli v7 c1_i32_1240
  let v1206 : BitVec 32 := Scalar.addi v1204 v1205
  v1206.toNat
def k0_dev32 (d0 : Dev nD) : Nat :=
  let c0_i32_1277 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1276 : BitVec 32 := 2#32
  let v1239 : BitVec 32 := Scalar.muli v6 c2_i32_1276
  let v1240 : BitVec 32 := Scalar.addi c0_i32_1277 v1239
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1278 : BitVec 32 := 1#32
  let v1241 : BitVec 32 := Scalar.muli v5 c1_i32_1278
  let v1242 : BitVec 32 := Scalar.addi v1240 v1241
  v1242.toNat
def k0_off19 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c3456_i32_1317 : BitVec 32 := 3456#32
  ![v8.toNat, 3456]
def k0_dev33 (d0 : Dev nD) : Nat :=
  let c0_i32_1324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1323 : BitVec 32 := 2#32
  let v1284 : BitVec 32 := Scalar.muli v2 c2_i32_1323
  let v1285 : BitVec 32 := Scalar.addi c0_i32_1324 v1284
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1325 : BitVec 32 := 1#32
  let v1286 : BitVec 32 := Scalar.muli v7 c1_i32_1325
  let v1287 : BitVec 32 := Scalar.addi v1285 v1286
  v1287.toNat
def k0_dev34 (d0 : Dev nD) : Nat :=
  let c0_i32_1358 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1357 : BitVec 32 := 2#32
  let v1315 : BitVec 32 := Scalar.muli v6 c2_i32_1357
  let v1316 : BitVec 32 := Scalar.addi c0_i32_1358 v1315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1359 : BitVec 32 := 1#32
  let v1317 : BitVec 32 := Scalar.muli v5 c1_i32_1359
  let v1318 : BitVec 32 := Scalar.addi v1316 v1317
  v1318.toNat
def k0_off20 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c3712_i32_1398 : BitVec 32 := 3712#32
  ![v8.toNat, 3712]
def k0_dev35 (d0 : Dev nD) : Nat :=
  let c0_i32_1405 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1404 : BitVec 32 := 2#32
  let v1360 : BitVec 32 := Scalar.muli v2 c2_i32_1404
  let v1361 : BitVec 32 := Scalar.addi c0_i32_1405 v1360
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1406 : BitVec 32 := 1#32
  let v1362 : BitVec 32 := Scalar.muli v7 c1_i32_1406
  let v1363 : BitVec 32 := Scalar.addi v1361 v1362
  v1363.toNat
def k0_off21 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c3968_i32_1444 : BitVec 32 := 3968#32
  ![v8.toNat, 3968]
def k0_dev36 (d0 : Dev nD) : Nat :=
  let c0_i32_1451 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1450 : BitVec 32 := 2#32
  let v1404 : BitVec 32 := Scalar.muli v2 c2_i32_1450
  let v1405 : BitVec 32 := Scalar.addi c0_i32_1451 v1404
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1452 : BitVec 32 := 1#32
  let v1406 : BitVec 32 := Scalar.muli v7 c1_i32_1452
  let v1407 : BitVec 32 := Scalar.addi v1405 v1406
  v1407.toNat
-- ==== ReferenceIdeal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .hbm, ⟨5, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Held.lean ====
/- Part of a buffer held at a share, with a fact known of its contents: the form in which every slot and region of this
   proof is kept, and what loads, stores and splittings do to it. -/
module

public import Idealize.ShloMosaic.Lib.Rounds
public import Idealize.ShloMosaic.Lib.Tactic

@[expose] public section

noncomputable section

namespace Cert.Held

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

/-- The elements `S` of a buffer at share `q`, their contents satisfying `P`. -/
def held (ℓ : Loc nD τ sig) (S : Finset (Idx ℓ)) (q : PosShare TreeShare) (P : Buf Val ℓ → Prop) : sProp 𝕄 :=
  iprop(∃ f, ⌜P f⌝ ∗ (ℓ ↦[S]{q} f))

instance held_storable (ℓ : Loc nD τ sig) (S : Finset (Idx ℓ)) (q : PosShare TreeShare) (P : Buf Val ℓ → Prop) :
    BI.Storable (upEmb : UEmb _ 𝕄) (held ℓ S q P) := by unfold held; infer_instance

/-- Nothing known of the contents. -/
abbrev free (ℓ : Loc nD τ sig) (S : Finset (Idx ℓ)) : sProp 𝕄 := held ℓ S fullShare fun _ => True

variable {ℓ : Loc nD τ sig} {S V : Finset (Idx ℓ)} {q : PosShare TreeShare} {P Q R : Buf Val ℓ → Prop}

theorem held_ex : (held ℓ S q P : sProp 𝕄) ⊢ iprop(∃ f, ⌜P f⌝ ∗ (ℓ ↦[S]{q} f)) := by
  unfold held
  iintro H; iexact H

theorem held_mono (h : ∀ f, P f → Q f) : (held ℓ S q P : sProp 𝕄) ⊢ held ℓ S q Q := by
  unfold held
  iintro ⟨%f, %hf, H⟩
  iexists f
  isplitr; · ipureintro; exact h f hf
  iexact H

theorem held_forget : (held ℓ S q P : sProp 𝕄) ⊢ held ℓ S q fun _ => True := held_mono fun _ _ => trivial

theorem held_intro {f : Buf Val ℓ} (h : P f) : (ℓ ↦[S]{q} f : sProp 𝕄) ⊢ held ℓ S q P := by
  unfold held
  iintro H
  iexists f
  isplitr; · ipureintro; exact h
  iexact H

/-- A held region split for a transfer out of the part `V` of it: one half of `V`, the other half, and the rest. -/
theorem held_split (h : V ⊆ S) :
    (held ℓ S fullShare P : sProp 𝕄)
      ⊢ iprop(held ℓ V fullShare.left P ∗ held ℓ V fullShare.right P ∗ free ℓ (S \ V)) := by
  unfold free held
  iintro ⟨%f, %hf, H⟩
  ihave H' := (pointsTo_split_subset (q := fullShare) (f := f) h).1 $$ H
  icases H' with ⟨HV, HR⟩
  ihave H' := (pointsTo_share (I := V) (f := f) (PosShare.mem_left_op_right fullShare)).1 $$ HV
  icases H' with ⟨Hl, Hr⟩
  isplitl [Hl]
  · iexists f; isplitr; · ipureintro; exact hf
    iexact Hl
  isplitl [Hr]
  · iexists f; isplitr; · ipureintro; exact hf
    iexact Hr
  iexists f; isplitr; · ipureintro; trivial
  iexact HR

/-- Two halves of a region, whatever is known of each, agree and are the region. -/
theorem halves_join :
    iprop(held ℓ V fullShare.left P ∗ held ℓ V fullShare.right Q) ⊢ (held ℓ V fullShare P : sProp 𝕄) := by
  have key (f g : Buf Val ℓ) : iprop((ℓ ↦[V]{fullShare.left} f) ∗ ℓ ↦[V]{fullShare.right} g) ⊢ (ℓ ↦[V]{fullShare} f : sProp 𝕄) :=
    pure_elim _ pointsTo_agree fun hag => by
      rw [pointsTo_congr (ℓ := ℓ) (I := V) (q := fullShare.right) (f := g) (g := f)
        (fun i hi => ((hag i (Finset.mem_inter.mpr ⟨hi, hi⟩)).1).symm)]
      exact (pointsTo_share (PosShare.mem_left_op_right fullShare)).2
  unfold held
  iintro ⟨⟨%f, %hf, Hl⟩, ⟨%g, -, Hr⟩⟩
  iexists f
  isplitr; · ipureintro; exact hf
  iapply (key f g)
  isplitl [Hl] <;> iassumption

/-- The parts put back together. -/
theorem held_join (h : V ⊆ S) :
    iprop(held ℓ V fullShare.left P ∗ held ℓ V fullShare.right Q ∗ held ℓ (S \ V) fullShare R) ⊢ (free ℓ S : sProp 𝕄) := by
  iintro ⟨Hl, Hr, HR⟩
  ihave HV := (halves_join (P := P) (Q := Q)) $$ [Hl Hr]
  · isplitl [Hl] <;> iassumption
  unfold free held
  icases HV with ⟨%f, -, HV⟩
  icases HR with ⟨%k, -, HR⟩
  iexists (V.piecewise f k)
  isplitr; · ipureintro; trivial
  iapply (pointsTo_join_subset h)
  isplitl [HV] <;> iassumption

/-- Two parts of a region, both free, are the region free. -/
theorem free_join (h : V ⊆ S) :
    iprop(held ℓ V fullShare P ∗ held ℓ (S \ V) fullShare Q) ⊢ (free ℓ S : sProp 𝕄) := by
  unfold free held
  iintro ⟨⟨%f, -, HV⟩, ⟨%k, -, HR⟩⟩
  iexists (V.piecewise f k)
  isplitr; · ipureintro; trivial
  iapply (pointsTo_join_subset h)
  isplitl [HV] <;> iassumption

theorem free_split (h : V ⊆ S) : (held ℓ S fullShare P : sProp 𝕄) ⊢ iprop(free ℓ V ∗ free ℓ (S \ V)) := by
  unfold free held
  iintro ⟨%f, %hf, H⟩
  ihave H' := (pointsTo_split_subset (q := fullShare) (f := f) h).1 $$ H
  icases H' with ⟨HV, HR⟩
  isplitl [HV]
  · iexists f; isplitr; · ipureintro; trivial
    iexact HV
  iexists f; isplitr; · ipureintro; trivial
  iexact HR

/-- A whole buffer cut into disjoint regions that cover it; and put back together, each region's fact kept as a fact of
    contents agreeing with the whole's there. -/
theorem free_cut {I : Type} [Fintype I] (A : I → Finset (Idx ℓ)) (hd : ∀ a b, a ≠ b → Disjoint (A a) (A b)) (hc : ∀ i, ∃ a, i ∈ A a) :
    (held ℓ Finset.univ fullShare P : sProp 𝕄) ⊢ bigSep Finset.univ fun a => free ℓ (A a) := by
  have hu : Finset.univ.biUnion A = Finset.univ := Finset.eq_univ_iff_forall.mpr fun i => by
    obtain ⟨a, ha⟩ := hc i
    exact Finset.mem_biUnion.mpr ⟨a, Finset.mem_univ _, ha⟩
  have key (f : Buf Val ℓ) : (ℓ ↦[Finset.univ]{fullShare} f : sProp 𝕄) ⊢ bigSep Finset.univ fun a => free ℓ (A a) := by
    rw [← hu, pointsTo_biUnion Finset.univ A fun a _ b _ h => hd a b h]
    exact bigSep_mono fun a _ => held_intro trivial
  unfold held
  iintro ⟨%f, -, H⟩
  iapply (key f); iexact H

theorem held_paste {I : Type} [Fintype I] [DecidableEq I] (A : I → Finset (Idx ℓ)) (hd : ∀ a b, a ≠ b → Disjoint (A a) (A b)) (hc : ∀ i, ∃ a, i ∈ A a)
    (f₀ : Buf Val ℓ) (Ps : I → Buf Val ℓ → Prop) :
    (bigSep Finset.univ fun a => (held ℓ (A a) fullShare (Ps a) : sProp 𝕄))
      ⊢ held ℓ Finset.univ fullShare fun g => ∀ a, ∃ f, Ps a f ∧ ∀ i ∈ A a, g i = f i := by
  have hu : Finset.univ.biUnion A = Finset.univ := Finset.eq_univ_iff_forall.mpr fun i => by
    obtain ⟨a, ha⟩ := hc i
    exact Finset.mem_biUnion.mpr ⟨a, Finset.mem_univ _, ha⟩
  haveI : Nonempty (Buf Val ℓ) := ⟨f₀⟩
  have key (fs : I → Buf Val ℓ) (hP : ∀ a ∈ Finset.univ, Ps a (fs a)) : (bigSep Finset.univ fun a => (ℓ ↦[A a]{fullShare} fs a : sProp 𝕄))
      ⊢ held ℓ Finset.univ fullShare fun g => ∀ a, ∃ f, Ps a f ∧ ∀ i ∈ A a, g i = f i := by
    refine (pointsTo_biUnion_join Finset.univ A fs f₀ fun a _ b _ h => hd a b h).trans ?_
    rw [hu]
    iintro ⟨%g, %hg, H⟩
    iapply (held_intro (f := g) fun a => ⟨fs a, hP a (Finset.mem_univ _), fun i hi => hg a (Finset.mem_univ _) i hi⟩)
    iexact H
  have pull : (bigSep Finset.univ fun a => (held ℓ (A a) fullShare (Ps a) : sProp 𝕄))
      ⊢ iprop(∃ fs : I → Buf Val ℓ, bigSep Finset.univ fun a => iprop(⌜Ps a (fs a)⌝ ∗ ℓ ↦[A a]{fullShare} fs a)) :=
    (bigSep_mono fun a _ => held_ex).trans (bigSep_exists_pi Finset.univ fun a f => iprop(⌜Ps a f⌝ ∗ ℓ ↦[A a]{fullShare} f))
  refine pull.trans ?_
  iintro ⟨%fs, H⟩
  ihave H := (bigSep_pure_sep Finset.univ (fun a => Ps a (fs a)) fun a => (ℓ ↦[A a]{fullShare} fs a : sProp 𝕄)) $$ H
  icases H with ⟨%hP, H⟩
  iapply (key fs hP); iexact H

section Steps

variable {Λ : Labels} {defs : Defs nD τ sig Val Λ} (𝒱 : Variants) (c : Thread nD τ) (bd : Option 𝒱.V) {Γ : PendingWaitsCtx sig Unit} (E : Set ℕ)
variable {α : Type} {cs : CoreSpace} {s : Shape} {e : EltTy} {m : Memref sig c.2.kind cs s e} {r : Rect s}

/-- A load of a region whose reading is known. -/
theorem wp_load_held {Qp : α → sProp 𝕄} {hl : m.view.LoadsAt r} {k : (r.shape.Idx → Val e) → Prog (TpuEff nD τ sig Val Λ c.2) α}
    {S : Finset (Idx ((m.access r).loc c))} {q : PosShare TreeShare} {P : Buf Val ((m.access r).loc c) → Prop} (w : r.shape.Idx → Val e)
    (hS : (m.access r).set ⊆ S) (hP : ∀ f, P f → (m.access r).read Val f = w) :
    (held ((m.access r).loc c) S q P : sProp 𝕄)
      ⊢ iprop((held ((m.access r).loc c) S q P -∗ wp frame (wpE' defs 𝒱 c bd Γ) E (k w) Qp)
        -∗ wp frame (wpE' defs 𝒱 c bd Γ) E (.op (.load m r hl) k) Qp) := by
  unfold held
  iintro ⟨%f, %hf, H⟩ Hk
  iapply (wp_load_rect 𝒱 c bd E hS) $$ H
  iintro H
  rw [hP f hf]
  iapply Hk
  iexists f
  isplitr; · ipureintro; exact hf
  iexact H

/-- A load whose value is not used. -/
theorem wp_load_drop {Qp : α → sProp 𝕄} {hl : m.view.LoadsAt r} {k : Prog (TpuEff nD τ sig Val Λ c.2) α}
    {S : Finset (Idx ((m.access r).loc c))} {q : PosShare TreeShare} {P : Buf Val ((m.access r).loc c) → Prop}
    (hS : (m.access r).set ⊆ S) :
    (held ((m.access r).loc c) S q P : sProp 𝕄)
      ⊢ iprop((held ((m.access r).loc c) S q P -∗ wp frame (wpE' defs 𝒱 c bd Γ) E k Qp)
        -∗ wp frame (wpE' defs 𝒱 c bd Γ) E (.op (.load m r hl) fun _ => k) Qp) := by
  unfold held
  iintro ⟨%f, %hf, H⟩ Hk
  iapply (wp_load_rect 𝒱 c bd E hS) $$ H
  iintro H
  iapply Hk
  iexists f
  isplitr; · ipureintro; exact hf
  iexact H

/-- An unmasked store: what is known before, `P`, becomes `Q`. -/
theorem wp_store_held {Qp : α → sProp 𝕄} {w : r.shape.Idx → Val e} {hx : (m.access r).Stores Finset.univ} {hm : Finset.univ = Finset.univ ∨ ∀ a, r.stride a = 1}
    {k : PUnit → Prog (TpuEff nD τ sig Val Λ c.2) α} {S : Finset (Idx ((m.access r).loc c))} {P Q : Buf Val ((m.access r).loc c) → Prop}
    (hS : (m.access r).set ⊆ S) (hP : ∀ f, P f → Q ((m.access r).write Val f w Finset.univ)) :
    (held ((m.access r).loc c) S fullShare P : sProp 𝕄)
      ⊢ iprop((held ((m.access r).loc c) S fullShare Q -∗ wp frame (wpE' defs 𝒱 c bd Γ) E (k ⟨⟩) Qp)
        -∗ wp frame (wpE' defs 𝒱 c bd Γ) E (.op (.store m r w Finset.univ hx hm) k) Qp) := by
  unfold held
  iintro ⟨%f, %hf, H⟩ Hk
  iapply (wp_store 𝒱 c bd E hS) $$ H
  iintro H
  iapply Hk
  iexists ((m.access r).write Val f w Finset.univ)
  isplitr; · ipureintro; exact hP f hf
  iexact H

/-- An unmasked store, as what its own range reads afterwards. -/
theorem wp_store_read {Qp : α → sProp 𝕄} {w : r.shape.Idx → Val e} {hx : (m.access r).Stores Finset.univ} {hm : Finset.univ = Finset.univ ∨ ∀ a, r.stride a = 1}
    {k : PUnit → Prog (TpuEff nD τ sig Val Λ c.2) α} {S : Finset (Idx ((m.access r).loc c))} (hS : (m.access r).set ⊆ S) :
    (free ((m.access r).loc c) S : sProp 𝕄)
      ⊢ iprop((held ((m.access r).loc c) S fullShare (fun f => (m.access r).read Val f = w) -∗ wp frame (wpE' defs 𝒱 c bd Γ) E (k ⟨⟩) Qp)
        -∗ wp frame (wpE' defs 𝒱 c bd Γ) E (.op (.store m r w Finset.univ hx hm) k) Qp) :=
  wp_store_held 𝒱 c bd E hS fun f _ => View.read_write_univ _ _

/-- A held region as the destination of a transfer of `w`. -/
theorem held_writeUpdate {sp : Space} {v : View sig c.2.kind sp s e} {w : s.Idx → Val e} {S : Finset (Idx (v.loc c))} {P Q : Buf Val (v.loc c) → Prop}
    (hS : v.set ⊆ S) (hP : ∀ f, P f → Q (v.write Val f w Finset.univ)) :
    (held (v.loc c) S fullShare P : sProp 𝕄) ⊢ writeUpdate c v w (held (v.loc c) S fullShare Q) := by
  have key (f : Buf Val (v.loc c)) (hf : P f) : (v.loc c ↦[S]{fullShare} f : sProp 𝕄) ⊢ writeUpdate c v w (held (v.loc c) S fullShare Q) := by
    refine (pointsTo_writeUpdate c (v := v) (w := w) hS).trans ?_
    rw [writeUpdate, writeUpdate, writeUpdateFrom_def, writeUpdateFrom_def]
    iintro ⟨%A, HA, Hs, HR⟩
    iexists A
    isplitl [HA]; · iexact HA
    isplitl [Hs]; · iexact Hs
    iintro HA
    ihave H := HR $$ HA
    iapply (held_intro (hP f hf)); iexact H
  conv_lhs => unfold held
  iintro ⟨%f, %hf, H⟩
  iapply (key f hf); iexact H

end Steps

end Cert.Held

end
-- ==== Proof.Family.lean ====
/- A family of seventeen things, each of which is started and then ended, both in order. -/
module

public import proofs.«01_k».proof.Proof.Held

@[expose] public section

noncomputable section

namespace Cert.Held

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {M : Type} [URA M]

/-- The state of thing `j` when the first `p` have been started and the first `q` ended. -/
def stage (fresh out over : Fin 17 → sProp M) (p q : ℕ) (j : Fin 17) : sProp M :=
  if j.val < q then over j else if j.val < p then out j else fresh j
def family (fresh out over : Fin 17 → sProp M) (p q : ℕ) : sProp M := bigSep Finset.univ (stage fresh out over p q)

theorem stage_over (fresh out over : Fin 17 → sProp M) {p q : ℕ} {j : Fin 17} (h : j.val < q) : stage fresh out over p q j = over j := if_pos h
theorem stage_out (fresh out over : Fin 17 → sProp M) {p q : ℕ} {j : Fin 17} (h : q ≤ j.val) (h' : j.val < p) : stage fresh out over p q j = out j := by
  unfold stage; rw [if_neg (by omega), if_pos h']
theorem stage_fresh (fresh out over : Fin 17 → sProp M) {p q : ℕ} {j : Fin 17} (h : q ≤ j.val) (h' : p ≤ j.val) : stage fresh out over p q j = fresh j := by
  unfold stage; rw [if_neg (by omega), if_neg (by omega)]

/-- The next is started. -/
theorem family_start (fresh out over : Fin 17 → sProp M) (p q : ℕ) (hp : p < 17) (hq : q ≤ p) :
    family fresh out over p q ⊢ iprop(fresh ⟨p, hp⟩ ∗ (out ⟨p, hp⟩ -∗ family fresh out over (p + 1) q)) := by
  have h := bigSep_univ_update (Φ := stage fresh out over p q) (Ψ := stage fresh out over (p + 1) q) (⟨p, hp⟩ : Fin 17) fun j hj => by
    have hne : j.val ≠ p := fun h => hj (Fin.ext h)
    rcases Nat.lt_or_ge j.val q with h | h
    · rw [stage_over _ _ _ h, stage_over _ _ _ h]
    · rcases Nat.lt_or_ge j.val p with h' | h'
      · rw [stage_out _ _ _ h h', stage_out _ _ _ h (by omega)]
      · rw [stage_fresh _ _ _ h h', stage_fresh _ _ _ h (by omega)]
  rw [stage_fresh _ _ _ (j := ⟨p, hp⟩) hq (Nat.le_refl p), stage_out _ _ _ (j := ⟨p, hp⟩) hq (Nat.lt_succ_self p)] at h
  exact h

/-- The next is ended. -/
theorem family_end (fresh out over : Fin 17 → sProp M) (p q : ℕ) (hq : q < 17) (hp : q < p) :
    family fresh out over p q ⊢ iprop(out ⟨q, hq⟩ ∗ (over ⟨q, hq⟩ -∗ family fresh out over p (q + 1))) := by
  have h := bigSep_univ_update (Φ := stage fresh out over p q) (Ψ := stage fresh out over p (q + 1)) (⟨q, hq⟩ : Fin 17) fun j hj => by
    have hne : j.val ≠ q := fun h => hj (Fin.ext h)
    rcases Nat.lt_or_ge j.val q with h | h
    · rw [stage_over _ _ _ h, stage_over _ _ _ (by omega)]
    · rcases Nat.lt_or_ge j.val p with h' | h'
      · rw [stage_out _ _ _ h h', stage_out _ _ _ (by omega) h']
      · rw [stage_fresh _ _ _ h h', stage_fresh _ _ _ (by omega) h']
  rw [stage_out _ _ _ (j := ⟨q, hq⟩) (Nat.le_refl q) hp, stage_over _ _ _ (j := ⟨q, hq⟩) (Nat.lt_succ_self q)] at h
  exact h

/-- All started, and all ended. -/
theorem family_over (fresh out over : Fin 17 → sProp M) (p : ℕ) : family fresh out over p 17 = bigSep Finset.univ over :=
  bigSep_congr fun j _ => stage_over _ _ _ j.isLt
theorem family_fresh (fresh out over : Fin 17 → sProp M) : family fresh out over 0 0 = bigSep Finset.univ fresh :=
  bigSep_congr fun j _ => stage_fresh _ _ _ (Nat.zero_le _) (Nat.zero_le _)
theorem family_out (fresh out over : Fin 17 → sProp M) : family fresh out over 17 0 = bigSep Finset.univ out :=
  bigSep_congr fun j _ => stage_out _ _ _ (Nat.zero_le _) j.isLt

/-- Past the last there is no more to start. -/
theorem family_past (fresh out over : Fin 17 → sProp M) {p q : ℕ} (h : 17 ≤ p) : family fresh out over (p + 1) q = family fresh out over p q :=
  bigSep_congr fun j _ => by
    have := j.isLt
    unfold stage
    by_cases h0 : j.val < q
    · rw [if_pos h0, if_pos h0]
    · rw [if_neg h0, if_neg h0, if_pos (by omega), if_pos (by omega)]

end Cert.Held

end
-- ==== Proof.Ideal.Chunks.lean ====
/- The kernel's body as a loop over its seventeen column chunks. The printed body is straight-line code of some three
   hundred operations; here each kind of step is written once, at a symbolic chunk, and the body is shown to be their
   chain. -/
module

public import proofs.«01_k».proof.Proof.Gen.KernelIdeal.Skeleton
public import proofs.«01_k».proof.Proof.Gen.KernelIdeal.Points

@[expose] public section

noncomputable section

namespace Cert.KernelIdeal.Proto

open Idealize.ShloMosaic Idealize.ShloMosaic.TcCoe
open Idealize.SL.Sem
open Cert.KernelIdeal.Gen

/-! ## Chunk geometry -/

/-- Where chunk `j`'s columns start: the first chunk is 128 wide, then each 256, the last 128 again. -/
def col (j : ℕ) : ℕ := if j < 17 then 256 * j - 128 else 4096
/-- How many columns chunk `j` has. -/
def wid (j : ℕ) : ℕ := col (j + 1) - col j

theorem wid_cases : ∀ j : Fin 17, wid j.val = 128 ∨ wid j.val = 256 := by decide
theorem wid_le (j : Fin 17) : wid j.val ≤ 256 := by rcases wid_cases j with h | h <;> omega
theorem col_add_wid : ∀ j : Fin 17, col j.val + wid j.val = col (j.val + 1) := by decide
theorem col_add_le : ∀ j : Fin 17, col j.val + wid j.val ≤ 4096 := by decide

/-- A chunk as a matrix, and as the one-slot block it is kept in. -/
abbrev P2 (w : ℕ) : Shape := ⟨2, ![2048, w]⟩
abbrev P3 (w : ℕ) : Shape := ⟨3, ![1, 2048, w]⟩

theorem p3_squeezes (w : ℕ) (hw : w = 128 ∨ w = 256) : (P3 w).Squeezes (P2 w) := by rcases hw with rfl | rfl <;> decide
theorem p3_casts (w : ℕ) (hw : w = 128 ∨ w = 256) : (P3 w).ShapeCasts (P2 w) := by rcases hw with rfl | rfl <;> decide
theorem p2_casts (w : ℕ) (hw : w = 128 ∨ w = 256) : (P2 w).ShapeCasts (P3 w) := by rcases hw with rfl | rfl <;> decide
theorem p3_pos (w : ℕ) (hw : w = 128 ∨ w = 256) : 0 < (P3 w).numel := by rcases hw with rfl | rfl <;> decide

theorem inb2 (s w : ℕ) (hs : s < 2) (hw : w ≤ 256) : ∀ a, (![s, 0, 0] : Fin 3 → ℕ) a + (P3 w).size a ≤ S2x2048x256.size a := by
  intro a; fin_cases a
  · show s + 1 ≤ 2; omega
  · show 0 + 2048 ≤ 2048; omega
  · show 0 + w ≤ 256; omega
theorem inb4 (s w : ℕ) (hs : s < 4) (hw : w ≤ 256) : ∀ a, (![s, 0, 0] : Fin 3 → ℕ) a + (P3 w).size a ≤ S4x2048x256.size a := by
  intro a; fin_cases a
  · show s + 1 ≤ 4; omega
  · show 0 + 2048 ≤ 2048; omega
  · show 0 + w ≤ 256; omega
theorem inb17 (j : Fin 17) : ∀ a, (![j.val] : Fin 1 → ℕ) a + S1.size a ≤ S17.size a := by
  intro a; fin_cases a; show j.val + 1 ≤ 17; omega
theorem inbB (j : Fin 17) : ∀ a, (![0, col j.val] : Fin 2 → ℕ) a + (P2 (wid j.val)).size a ≤ S2048x4096.size a := by
  intro a; fin_cases a
  · show 0 + 2048 ≤ 2048; omega
  · exact col_add_le j

/-- A double-buffered scratch's slot for chunk `j`, at the chunk's width; the receive scratch's, of four. -/
abbrev rect2 (j : Fin 17) : Rect S2x2048x256 :=
  Rect.unit (s := S2x2048x256) ![j.val % 2, 0, 0] (P3 (wid j.val)).size (inb2 _ _ (Nat.mod_lt _ (by decide)) (wid_le j))
abbrev rect4 (j : Fin 17) : Rect S4x2048x256 :=
  Rect.unit (s := S4x2048x256) ![j.val % 4, 0, 0] (P3 (wid j.val)).size (inb4 _ _ (Nat.mod_lt _ (by decide)) (wid_le j))

theorem packed2 (s w : ℕ) (hs : s < 2) (hw : w = 128 ∨ w = 256) (h) :
    (Rect.unit (s := S2x2048x256) ![s, 0, 0] (P3 w).size h).PackedRows (EltTy.packing .bf16) := by
  change S2x2048x256.PackedRowsAt _ ![s, 0, 0] (P3 w).size (fun _ => 1)
  rcases hw with rfl | rfl <;> rcases (by omega : s = 0 ∨ s = 1) with rfl | rfl <;> decide
theorem words4 (s w : ℕ) (hs : s < 4) (hw : w = 128 ∨ w = 256) (h) :
    (Rect.unit (s := S4x2048x256) ![s, 0, 0] (P3 w).size h).WholeWords (EltTy.packing .bf16) := by
  change S4x2048x256.WholeWordsAt _ ![s, 0, 0] (P3 w).size (fun _ => 1)
  rcases hw with rfl | rfl <;> rcases (by omega : s = 0 ∨ s = 1 ∨ s = 2 ∨ s = 3) with rfl | rfl | rfl | rfl <;> decide

/-! ## What the steps address -/

section Refs

/-- The chunk's column block of the B operand, and the slot it is fetched into. -/
abbrev bSrc (j : Fin 17) : Memref sig .tc .hbm (P2 (wid j.val)) .f32 :=
  (Memref.whole main_arg1).slice (Rect.unit (s := S2048x4096) ![0, col j.val] (P2 (wid j.val)).size (inbB j)) (fun _ => rfl)
abbrev bdSlot (j : Fin 17) : Memref sig .tc .vmem (P2 (wid j.val)) .f32 :=
  ((Memref.whole cc0_scratch2).slice (rect2 j) (fun _ => rfl)).squeeze (P2 (wid j.val)) (p3_squeezes _ (wid_cases j))
abbrev sendSlot (j : Fin 17) : Memref sig .tc .vmem (P2 (wid j.val)) .bf16 :=
  ((Memref.whole cc0_scratch3).slice (rect2 j) (fun _ => rfl)).squeeze (P2 (wid j.val)) (p3_squeezes _ (wid_cases j))
abbrev recvSlot (j : Fin 17) : Memref sig .tc .vmem (P2 (wid j.val)) .bf16 :=
  ((Memref.whole cc0_scratch4).slice (rect4 j) (fun _ => rfl)).squeeze (P2 (wid j.val)) (p3_squeezes _ (wid_cases j))
abbrev rSlot (j : Fin 17) : Memref sig .tc .vmem (P2 (wid j.val)) .bf16 :=
  ((Memref.whole cc0_scratch5).slice (rect2 j) (fun _ => rfl)).squeeze (P2 (wid j.val)) (p3_squeezes _ (wid_cases j))

/-- Where device `d`'s rows of chunk `j` start in the result, in the printed spelling. -/
def outOff (d : Dev nD) (j : Fin 17) : Fin 2 → ℕ := match j.val with
  | 0 => k0_off5 d | 1 => k0_off6 d | 2 => k0_off7 d | 3 => k0_off8 d | 4 => k0_off9 d | 5 => k0_off10 d
  | 6 => k0_off11 d | 7 => k0_off12 d | 8 => k0_off13 d | 9 => k0_off14 d | 10 => k0_off15 d | 11 => k0_off16 d
  | 12 => k0_off17 d | 13 => k0_off18 d | 14 => k0_off19 d | 15 => k0_off20 d | _ => k0_off21 d

theorem outOff_eq : ∀ (d : Dev nD) (j : Fin 17), outOff d j = ![2048 * (d.val % 2), col j.val] := by decide +kernel
theorem inbOut : ∀ (d : Dev nD) (j : Fin 17) (a), outOff d j a + (P2 (wid j.val)).size a ≤ S4096x4096.size a := by decide +kernel
theorem wordsOut : ∀ (d : Dev nD) (j : Fin 17),
    (Rect.unit (s := S4096x4096) (outOff d j) (P2 (wid j.val)).size (inbOut d j)).WholeWords (EltTy.packing .bf16) := by decide +kernel
abbrev outAt (d : Dev nD) (j : Fin 17) : Memref sig .tc .hbm (P2 (wid j.val)) .bf16 :=
  (Memref.whole main_v1).slice (Rect.unit (s := S4096x4096) (outOff d j) (P2 (wid j.val)).size (inbOut d j)) (fun _ => rfl)

/-- The four column blocks of the A operand's rows, and where they are staged. -/
def aOff (d : Dev nD) (k : Fin 4) : Fin 2 → ℕ := match k.val with
  | 0 => k0_off1 d | 1 => k0_off2 d | 2 => k0_off3 d | _ => k0_off4 d
theorem aOff_eq : ∀ (d : Dev nD) (k : Fin 4), aOff d k = ![2048 * (d.val % 2), 512 * k.val] := by decide +kernel
theorem inbA : ∀ (d : Dev nD) (k : Fin 4) (a), aOff d k a + S2048x512.size a ≤ S4096x2048.size a := by decide +kernel
theorem inbAb (k : Fin 4) : ∀ a, (![0, 512 * k.val] : Fin 2 → ℕ) a + S2048x512.size a ≤ S2048x2048.size a := by
  intro a; fin_cases a
  · show 0 + 2048 ≤ 2048; omega
  · show 512 * k.val + 512 ≤ 2048; omega
theorem inbS4 (k : Fin 4) : ∀ a, (![k.val] : Fin 1 → ℕ) a + S1.size a ≤ S4.size a := by
  intro a; fin_cases a; show k.val + 1 ≤ 4; omega
abbrev rectA (k : Fin 4) : Rect S2048x2048 := Rect.unit (s := S2048x2048) ![0, 512 * k.val] S2048x512.size (inbAb k)
theorem packedA : ∀ k : Fin 4, (rectA k).PackedRows (EltTy.packing .bf16) := by decide
abbrev aSrc (d : Dev nD) (k : Fin 4) : Memref sig .tc .hbm S2048x512 .f32 :=
  (Memref.whole main_arg0).slice (Rect.unit (s := S4096x2048) (aOff d k) S2048x512.size (inbA d k)) (fun _ => rfl)
abbrev aDst (k : Fin 4) : Memref sig .tc .vmem S2048x512 .f32 := (Memref.whole cc0_scratch0).slice (rectA k) (fun _ => rfl)

/-- The semaphores. -/
abbrev semA (k : Fin 4) : DmaSem sig := ((cc0_scratch6.slice (Rect.unit (s := S4) ![k.val] S1.size (inbS4 k))).squeeze S_ squeezes_S1_S_).sem
abbrev sem17 (a : DmaSems sig S17) (j : Fin 17) : DmaSem sig :=
  ((a.slice (Rect.unit (s := S17) ![j.val] S1.size (inb17 j))).squeeze S_ squeezes_S1_S_).sem
abbrev semB (j : Fin 17) : DmaSem sig := sem17 cc0_scratch7 j
abbrev semXS (j : Fin 17) : DmaSem sig := sem17 cc0_scratch8 j
abbrev semXR (j : Fin 17) : DmaSem sig := sem17 cc0_scratch9 j
abbrev semYS (j : Fin 17) : DmaSem sig := sem17 cc0_scratch10 j
abbrev semYR (j : Fin 17) : DmaSem sig := sem17 cc0_scratch11 j
abbrev semL (j : Fin 17) : DmaSem sig := sem17 cc0_scratch12 j
abbrev barS : Sems sig S_ := SemArray.scalar (sig.barrier 0 rfl)

/-- The device across `x` and the device across `y`, in the printed spelling of each step. -/
def xDev (d : Dev nD) (j : Fin 17) : Dev nD := match j.val with
  | 0 => ⟨k0_dev3 d, k0_dev3_lt d⟩ | 1 => ⟨k0_dev4 d, k0_dev4_lt d⟩ | 2 => ⟨k0_dev6 d, k0_dev6_lt d⟩
  | 3 => ⟨k0_dev8 d, k0_dev8_lt d⟩ | 4 => ⟨k0_dev10 d, k0_dev10_lt d⟩ | 5 => ⟨k0_dev12 d, k0_dev12_lt d⟩
  | 6 => ⟨k0_dev14 d, k0_dev14_lt d⟩ | 7 => ⟨k0_dev16 d, k0_dev16_lt d⟩ | 8 => ⟨k0_dev18 d, k0_dev18_lt d⟩
  | 9 => ⟨k0_dev20 d, k0_dev20_lt d⟩ | 10 => ⟨k0_dev22 d, k0_dev22_lt d⟩ | 11 => ⟨k0_dev24 d, k0_dev24_lt d⟩
  | 12 => ⟨k0_dev26 d, k0_dev26_lt d⟩ | 13 => ⟨k0_dev28 d, k0_dev28_lt d⟩ | 14 => ⟨k0_dev30 d, k0_dev30_lt d⟩
  | 15 => ⟨k0_dev32 d, k0_dev32_lt d⟩ | _ => ⟨k0_dev34 d, k0_dev34_lt d⟩
def yDev (d : Dev nD) (j : Fin 17) : Dev nD := match j.val with
  | 0 => ⟨k0_dev5 d, k0_dev5_lt d⟩ | 1 => ⟨k0_dev7 d, k0_dev7_lt d⟩ | 2 => ⟨k0_dev9 d, k0_dev9_lt d⟩
  | 3 => ⟨k0_dev11 d, k0_dev11_lt d⟩ | 4 => ⟨k0_dev13 d, k0_dev13_lt d⟩ | 5 => ⟨k0_dev15 d, k0_dev15_lt d⟩
  | 6 => ⟨k0_dev17 d, k0_dev17_lt d⟩ | 7 => ⟨k0_dev19 d, k0_dev19_lt d⟩ | 8 => ⟨k0_dev21 d, k0_dev21_lt d⟩
  | 9 => ⟨k0_dev23 d, k0_dev23_lt d⟩ | 10 => ⟨k0_dev25 d, k0_dev25_lt d⟩ | 11 => ⟨k0_dev27 d, k0_dev27_lt d⟩
  | 12 => ⟨k0_dev29 d, k0_dev29_lt d⟩ | 13 => ⟨k0_dev31 d, k0_dev31_lt d⟩ | 14 => ⟨k0_dev33 d, k0_dev33_lt d⟩
  | 15 => ⟨k0_dev35 d, k0_dev35_lt d⟩ | _ => ⟨k0_dev36 d, k0_dev36_lt d⟩

/-- The neighbours across `x` and across `y` on the two-by-two mesh. -/
def xp (d : Dev nD) : Dev nD := ⟨(d.val + 2) % 4, Nat.mod_lt _ (by decide)⟩
def yp (d : Dev nD) : Dev nD := ⟨2 * (d.val / 2) + (1 - d.val % 2), by have : d.val < 4 := d.isLt; show _ < 4; omega⟩

theorem xp_xp : ∀ d, xp (xp d) = d := by decide
theorem yp_yp : ∀ d, yp (yp d) = d := by decide
theorem xDev_eq : ∀ (d : Dev nD) (j : Fin 17), xDev d j = xp d := by decide +kernel
theorem yDev_eq : ∀ (d : Dev nD) (j : Fin 17), yDev d j = yp d := by decide +kernel

end Refs

variable {F : FTy → Type} [FloatOps F]

/-! ## The values stored -/

theorem dotW_wf (w : ℕ) (hw : w = 128 ∨ w = 256) : DotDims.WF S2048x2048 (P2 w) (P2 w) [1] [0] [0] [1] [] [] := by
  rcases hw with rfl | rfl
  · exact dot_S2048x2048_S2048x128_S2048x128_1_0_0_1_n_n_wf
  · exact dot_S2048x2048_S2048x256_S2048x256_1_0_0_1_n_n_wf
/-- The chunk's contraction: rows of A against columns of the chunk. -/
abbrev dotW (w : ℕ) (hw : w = 128 ∨ w = 256) : DotDims S2048x2048 (P2 w) (P2 w) where
  lhsContracting := [1]
  rhsContracting := [0]
  lhsNonContracting := [0]
  rhsNonContracting := [1]
  lhsBatch := []
  rhsBatch := []
  wf := dotW_wf w hw

/-- A block of A as the products read it. -/
def roundA (v : Vec F S2048x512 .f32) : FVec F S2048x512 .bf16 :=
  shapeCast S2048x512 (truncf .bf16 v bitsLt_bf16_f32) shapeCasts_S2048x512_S2048x512
/-- The chunk product a device sends: the rounded product of its A rows and its B rows' chunk. -/
def prodW (w : ℕ) (hw : w = 128 ∨ w = 256) (a : Vec F S2048x2048 .bf16) (b : Vec F (P3 w) .f32) : FVec F (P3 w) .bf16 :=
  shapeCast (P3 w) (truncf .bf16 (matmul (dotW w hw) none a (truncf .bf16 (shapeCast (P2 w) b (p3_casts w hw)) bitsLt_bf16_f32)
    (constant (P2 w) .f32 0x00000000#32)) bitsLt_bf16_f32) (p2_casts w hw)
/-- The sum of the two devices' products. -/
def sumW (w : ℕ) (hw : w = 128 ∨ w = 256) (a b : Vec F (P3 w) .bf16) : FVec F (P3 w) .bf16 :=
  shapeCast (P3 w) (addf (shapeCast (P2 w) a (p3_casts w hw)) (shapeCast (P2 w) b (p3_casts w hw))) (p2_casts w hw)

/-! ## The steps -/

/-- The body's programs. -/
abbrev P (F : FTy → Type) [FloatOps F] : Type _ := Prog (TpuEff nD τ sig (Elt F) Λ₀ .tc) PUnit

/-- Start fetching chunk `j` of B. -/
def fetchB (j : Fin 17) (k : P F) : P F :=
  .op (.enqueueDma (bSrc j) (.here (bdSlot j)) (.dma (semB j)) (View.wordExact_bits rfl) ((View.wordExact_bits rfl).reshape _ _) ⟨Or.inl rfl, trivial⟩) fun _ => k
/-- Wait for it. -/
def awaitB (j : Fin 17) (k : P F) : P F :=
  .op (.waitDma2 (semB j) (bSrc j) (bdSlot j) (View.wordExact_bits rfl) ((View.wordExact_bits rfl).reshape _ _)) fun _ => k

theorem wordsSend (j : Fin 17) : (sendSlot j).view.WordExact :=
  ((Memref.isWhole_whole _).wordExact_slice rfl _ (packed2 _ _ (Nat.mod_lt _ (by decide)) (wid_cases j) _).wholeWords).reshape _ _
theorem wordsR (j : Fin 17) : (rSlot j).view.WordExact :=
  ((Memref.isWhole_whole _).wordExact_slice rfl _ (packed2 _ _ (Nat.mod_lt _ (by decide)) (wid_cases j) _).wholeWords).reshape _ _
theorem wordsRecv (j : Fin 17) : (recvSlot j).view.WordExact :=
  ((Memref.isWhole_whole _).wordExact_slice rfl _ (words4 _ _ (Nat.mod_lt _ (by decide)) (wid_cases j) _)).reshape _ _
theorem wordsOutAt (d : Dev nD) (j : Fin 17) : (outAt d j).view.WordExact :=
  (Memref.isWhole_whole _).wordExact_slice rfl _ (wordsOut d j)

/-- Send the stored product across `x`; wait until it has left. -/
def sendX (d : Dev nD) (j : Fin 17) (k : P F) : P F :=
  .op (.enqueueDma (sendSlot j) (.remote (Dev.tc (xDev d j)) (recvSlot j) (.dma (semXS j))) (.dma (semXR j)) (wordsSend j) (wordsRecv j) ⟨⟨rfl, Or.inl rfl⟩, trivial⟩) fun _ => k
def awaitXS (j : Fin 17) (k : P F) : P F :=
  .op (.waitDma2 (semXS j) (recvSlot j) (sendSlot j) (wordsRecv j) (wordsSend j)) fun _ => k
/-- Wait for the neighbour's product. -/
def awaitXR (j : Fin 17) (k : P F) : P F :=
  .op (.waitDma2 (semXR j) (sendSlot j) (recvSlot j) (wordsSend j) (wordsRecv j)) fun _ => k

/-- Compute chunk `j`'s product and store it. -/
def product (j : Fin 17) (k : P F) : P F :=
  .op (.load (Memref.whole cc0_scratch1) (Rect.unit (s := S2048x2048) ![0, 0] S2048x2048.size inb_S2048x2048_S2048x2048_0_0).toLoadRect (View.loadsAt_vmem h_S2048x2048)) fun a =>
  .op (.load (Memref.whole cc0_scratch2) (rect2 j).toLoadRect (View.loadsAt_vmem (p3_pos _ (wid_cases j)))) fun b =>
  .op (.load (Memref.whole cc0_scratch3) (rect2 j).toLoadRect (View.loadsAt_vmem (p3_pos _ (wid_cases j)))) fun _ =>
  .op (.store (Memref.whole cc0_scratch3) (rect2 j) (prodW (wid j.val) (wid_cases j) a b) Finset.univ
    (View.stores_vmem (p3_pos _ (wid_cases j)) ((Memref.isWhole_whole _).storeExact_slice rfl _ (packed2 _ _ (Nat.mod_lt _ (by decide)) (wid_cases j) _)) (fun _ => rfl)) (.inl rfl)) fun _ => k

/-- Add the two products and store the sum. -/
def addUp (j : Fin 17) (k : P F) : P F :=
  .op (.load (Memref.whole cc0_scratch3) (rect2 j).toLoadRect (View.loadsAt_vmem (p3_pos _ (wid_cases j)))) fun a =>
  .op (.load (Memref.whole cc0_scratch4) (rect4 j).toLoadRect (View.loadsAt_vmem (p3_pos _ (wid_cases j)))) fun b =>
  .op (.load (Memref.whole cc0_scratch5) (rect2 j).toLoadRect (View.loadsAt_vmem (p3_pos _ (wid_cases j)))) fun _ =>
  .op (.store (Memref.whole cc0_scratch5) (rect2 j) (sumW (wid j.val) (wid_cases j) a b) Finset.univ
    (View.stores_vmem (p3_pos _ (wid_cases j)) ((Memref.isWhole_whole _).storeExact_slice rfl _ (packed2 _ _ (Nat.mod_lt _ (by decide)) (wid_cases j) _)) (fun _ => rfl)) (.inl rfl)) fun _ => k

/-- Write the sum into this device's result, and into the `y` neighbour's. -/
def putHere (d : Dev nD) (j : Fin 17) (k : P F) : P F :=
  .op (.enqueueDma (rSlot j) (.here (outAt d j)) (.dma (semL j)) (wordsR j) (wordsOutAt d j) ⟨Or.inl rfl, trivial⟩) fun _ => k
def putAcross (d : Dev nD) (j : Fin 17) (k : P F) : P F :=
  .op (.enqueueDma (rSlot j) (.remote (Dev.tc (yDev d j)) (outAt d j) (.dma (semYS j))) (.dma (semYR j)) (wordsR j) (wordsOutAt d j) ⟨⟨rfl, Or.inl rfl⟩, trivial⟩) fun _ => k
def awaitYS (d : Dev nD) (j : Fin 17) (k : P F) : P F :=
  .op (.waitDma2 (semYS j) (outAt d j) (rSlot j) (wordsOutAt d j) (wordsR j)) fun _ => k
def awaitL (d : Dev nD) (j : Fin 17) (k : P F) : P F :=
  .op (.waitDma2 (semL j) (rSlot j) (outAt d j) (wordsR j) (wordsOutAt d j)) fun _ => k
def awaitYR (d : Dev nD) (j : Fin 17) (k : P F) : P F :=
  .op (.waitDma2 (semYR j) (rSlot j) (outAt d j) (wordsR j) (wordsOutAt d j)) fun _ => k

/-- Finish chunk `i`: free its slot of the sums, take in the neighbour's product, add, write both results. -/
def finish (d : Dev nD) (i : ℕ) (hi : i < 17) (k : P F) : P F :=
  let tail : P F := awaitXR ⟨i, hi⟩ <| addUp ⟨i, hi⟩ <| putHere d ⟨i, hi⟩ <| putAcross d ⟨i, hi⟩ k
  if h : 2 ≤ i then awaitYS d ⟨i - 2, by omega⟩ <| awaitL d ⟨i - 2, by omega⟩ tail else tail

/-- Iteration `j`. -/
def iter (d : Dev nD) (j : ℕ) (hj : j < 17) (k : P F) : P F :=
  let last : P F := if h : 1 ≤ j then finish d (j - 1) (by omega) k else k
  let mid : P F := product ⟨j, hj⟩ <| sendX d ⟨j, hj⟩ last
  let waits : P F := awaitB ⟨j, hj⟩ <| if h : 2 ≤ j then awaitXS ⟨j - 2, by omega⟩ mid else mid
  if h : j + 1 < 17 then fetchB ⟨j + 1, h⟩ waits else waits

/-- The iterations from `j` on, `n` of them. -/
def iters (d : Dev nD) : (n j : ℕ) → j + n = 17 → P F → P F
  | 0, _, _, k => k
  | n + 1, j, h, k => iter d j (by omega) (iters d n (j + 1) (by omega) k)

/-- Wait for what is written into this device's result by the neighbour. -/
def drain (d : Dev nD) : (n j : ℕ) → j + n = 17 → P F → P F
  | 0, _, _, k => k
  | n + 1, j, h, k => awaitYR d ⟨j, by omega⟩ (drain d n (j + 1) (by omega) k)

/-- The end: the last chunk finished, and every transfer still out waited for. -/
def ending (d : Dev nD) : P F :=
  finish d 16 (by decide) <|
  awaitXS 15 <| awaitYS d 15 <| awaitL d 15 <| awaitXS 16 <| awaitYS d 16 <| awaitL d 16 <|
  drain d 17 0 rfl (.ret ⟨⟩)

/-- Start fetching a block of A; wait for it, round it and store it. -/
def fetchA (d : Dev nD) (k : Fin 4) (n : P F) : P F :=
  .op (.enqueueDma (aSrc d k) (.here (aDst k)) (.dma (semA k)) (View.wordExact_bits rfl) (View.wordExact_bits rfl) ⟨Or.inl rfl, trivial⟩) fun _ => n
def takeA (d : Dev nD) (k : Fin 4) (n : P F) : P F :=
  .op (.waitDma2 (semA k) (aSrc d k) (aDst k) (View.wordExact_bits rfl) (View.wordExact_bits rfl)) fun _ =>
  .op (.load (Memref.whole cc0_scratch0) (rectA k).toLoadRect (View.loadsAt_vmem h_S2048x512)) fun v =>
  .op (.load (Memref.whole cc0_scratch1) (rectA k).toLoadRect (View.loadsAt_vmem h_S2048x512)) fun _ =>
  .op (.store (Memref.whole cc0_scratch1) (rectA k) (roundA v) Finset.univ
    (View.stores_vmem h_S2048x512 ((Memref.isWhole_whole _).storeExact_slice rfl _ (packedA k)) (fun _ => rfl)) (.inl rfl)) fun _ => n

/-- The handshake: tell both neighbours this device has entered, and wait until both have said so. -/
def handshake (d : Dev nD) (k : P F) : P F :=
  .op (.semSignal (Dev.tc (⟨k0_dev1 d, k0_dev1_lt d⟩ : Dev nD)) barS.sem (BitVec.toInt 1#32)) fun _ =>
  .op (.semSignal (Dev.tc (⟨k0_dev2 d, k0_dev2_lt d⟩ : Dev nD)) barS.sem (BitVec.toInt 1#32)) fun _ =>
  .op (.semWait barS.sem (BitVec.toInt 2#32)) fun _ => k

/-- The body. -/
def bodyProg : P F :=
  .op .deviceId fun d =>
  fetchB 0 <| fetchA d 0 <| fetchA d 1 <| fetchA d 2 <| fetchA d 3 <| handshake d <|
  takeA d 0 <| takeA d 1 <| takeA d 2 <| takeA d 3 <|
  iters d 17 0 rfl (ending d)

set_option maxRecDepth 100000 in
theorem body_eq (t : Fin cfg0.N) : bodyAt0 (F := F) t = bodyProg := by
  show cc0_body _ _ _ _ _ _ _ _ _ _ _ _ _ _ _ _ _ _ _ _ _ _ _ _ _ = _
  rw [cc0_body_eq_skeleton]
  rfl

end Cert.KernelIdeal.Proto

end
-- ==== Proof.Ideal.Sched.lean ====
/- The cross-device protocol. Every semaphore of the kernel is used for exactly one transfer or one handshake, so its
   schedule has one round. Written down here: the values moved, who pays each cell and what the payment hands over, what
   each device owes its neighbours at the start, and the levels that order the waits. -/
module

public import proofs.«01_k».proof.Proof.Held
public import proofs.«01_k».proof.Proof.Ideal.Chunks
public import proofs.«01_k».proof.Proof.Gen.KernelIdeal.Launch
public import Idealize.ShloMosaic.Lib.Pipeline.Launch
public import Idealize.ShloMosaic.Lib.Pipeline.Kit
public import Idealize.ShloMosaic.Lib.Pipeline.Value

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ)

/-! ## Cells -/

/-- A device's own transfer semaphores: four for the blocks of A, and six families of one a chunk. -/
abbrev Own : Type := Fin 4 ⊕ (Fin 6 × Fin 17)
abbrev oA (k : Fin 4) : Own := .inl k
abbrev oB (j : Fin 17) : Own := .inr (0, j)
abbrev oXS (j : Fin 17) : Own := .inr (1, j)
abbrev oXR (j : Fin 17) : Own := .inr (2, j)
abbrev oYS (j : Fin 17) : Own := .inr (3, j)
abbrev oYR (j : Fin 17) : Own := .inr (4, j)
abbrev oL (j : Fin 17) : Own := .inr (5, j)

def osem : Own → SemLoc sig
  | .inl k => .dma (semA k)
  | .inr (0, j) => .dma (semB j)
  | .inr (1, j) => .dma (semXS j)
  | .inr (2, j) => .dma (semXR j)
  | .inr (3, j) => .dma (semYS j)
  | .inr (4, j) => .dma (semYR j)
  | .inr (5, j) => .dma (semL j)

/-- A cell of a device: the barrier's, or one of its own. -/
def ksem : Option Own → SemLoc sig
  | none => .reg barS.sem
  | some o => osem o

/-- The semaphores' places in the device's list of transfer semaphores. -/
def place : Own → ℕ
  | .inl k => k.val
  | .inr (a, j) => 4 + 17 * a.val + j.val
def semNum : SemLoc sig → ℕ
  | .dma q => q.val
  | .reg _ => 1000

theorem semNum_osem : ∀ o, semNum (osem o) = place o := by decide +kernel
theorem place_inj : Function.Injective place := by
  rintro (k | ⟨a, j⟩) (k' | ⟨a', j'⟩) h <;> simp only [place] at h
  · exact congrArg _ (Fin.ext h)
  · omega
  · omega
  · have h1 : a.val = a'.val := by omega
    have h2 : j.val = j'.val := by omega
    rw [Fin.ext h1, Fin.ext h2]
theorem osem_inj : Function.Injective osem := fun a b h => place_inj (by rw [← semNum_osem, ← semNum_osem, h])
theorem osem_ne_bar (o : Own) : osem o ≠ .reg barS.sem := by
  rcases o with k | ⟨a, j⟩
  · intro h; cases h
  · fin_cases a <;> (intro h; cases h)
theorem ksem_inj : Function.Injective ksem := by
  rintro (_ | o) (_ | o') h
  · rfl
  · exact absurd h.symm (osem_ne_bar o')
  · exact absurd h (osem_ne_bar o)
  · exact congrArg some (osem_inj h)

abbrev kcell (ck : Dev nD × Option Own) : GSem nD τ sig := ((ck.1 : Thread nD τ), ksem ck.2)
abbrev cell (c : Dev nD) (o : Own) : GSem nD τ sig := ((c : Thread nD τ), osem o)
abbrev barCell (c : Dev nD) : GSem nD τ sig := ((c : Thread nD τ), .reg barS.sem)

open Classical in
/-- Which of a device's cells a semaphore is. -/
def kindOf (s : SemLoc sig) : Option (Option Own) := if h : ∃ k, ksem k = s then some h.choose else none
theorem kindOf_ksem (k : Option Own) : kindOf (ksem k) = some k := by
  unfold kindOf
  rw [dif_pos ⟨k, rfl⟩]
  exact congrArg some (ksem_inj (Exists.choose_spec (⟨k, rfl⟩ : ∃ k', ksem k' = ksem k)))

/-! ## What a transfer credits -/

def amt : Own → ℕ
  | .inl k => (aDst k).view.dmaCredit
  | .inr (0, j) => (bdSlot j).view.dmaCredit
  | .inr (1, j) => (recvSlot j).view.dmaCredit
  | .inr (2, j) => (recvSlot j).view.dmaCredit
  | .inr (3, j) => (outAt 0 j).view.dmaCredit
  | .inr (4, j) => (outAt 0 j).view.dmaCredit
  | .inr (5, j) => (outAt 0 j).view.dmaCredit

theorem credit_send (j : Fin 17) : (sendSlot j).view.dmaCredit = (recvSlot j).view.dmaCredit := rfl
theorem credit_r (j : Fin 17) : (rSlot j).view.dmaCredit = (outAt 0 j).view.dmaCredit := rfl
theorem credit_out (d : Dev nD) (j : Fin 17) : (outAt d j).view.dmaCredit = (outAt 0 j).view.dmaCredit := rfl
theorem amt_pos (o : Own) : 0 < amt o := by
  have h2 (j : Fin 17) : 0 < (P2 (wid j.val)).numel := by rcases wid_cases j with h | h <;> rw [h] <;> decide
  rcases o with k | ⟨a, j⟩
  · exact View.dmaCredit_pos _ h_S2048x512
  · fin_cases a <;> exact View.dmaCredit_pos _ (h2 j)

/-! ## The buffers and their slots -/

abbrev lA (c : Dev nD) := (c : Thread nD τ).loc main_arg0
abbrev lB (c : Dev nD) := (c : Thread nD τ).loc main_arg1
abbrev lOut (c : Dev nD) := (c : Thread nD τ).loc main_v1
abbrev lAf (c : Dev nD) := (c : Thread nD τ).loc cc0_scratch0
abbrev lAb (c : Dev nD) := (c : Thread nD τ).loc cc0_scratch1
abbrev lBd (c : Dev nD) := (c : Thread nD τ).loc cc0_scratch2
abbrev lSend (c : Dev nD) := (c : Thread nD τ).loc cc0_scratch3
abbrev lRecv (c : Dev nD) := (c : Thread nD τ).loc cc0_scratch4
abbrev lR (c : Dev nD) := (c : Thread nD τ).loc cc0_scratch5

/-- A whole slot of a double buffer; of the receive buffer. -/
def slot2 (n : ℕ) : Finset S2x2048x256.Idx := Finset.univ.filter fun i => (i 0).val = n % 2
def slot4 (n : ℕ) : Finset S4x2048x256.Idx := Finset.univ.filter fun i => (i 0).val = n % 4

theorem rect2_sub (j : Fin 17) : (rect2 j).set ⊆ slot2 j.val := fun i hi => by
  have h := Rect.mem_set_unit.mp hi 0
  refine Finset.mem_filter.mpr ⟨Finset.mem_univ _, ?_⟩
  have h1 : j.val % 2 ≤ (i 0).val := h.1
  have h2 : (i 0).val < j.val % 2 + 1 := h.2
  omega
theorem rect4_sub (j : Fin 17) : (rect4 j).set ⊆ slot4 j.val := fun i hi => by
  have h := Rect.mem_set_unit.mp hi 0
  refine Finset.mem_filter.mpr ⟨Finset.mem_univ _, ?_⟩
  have h1 : j.val % 4 ≤ (i 0).val := h.1
  have h2 : (i 0).val < j.val % 4 + 1 := h.2
  omega

theorem bd_set (j : Fin 17) : (bdSlot j).view.set = (rect2 j).set :=
  (View.set_reshape _ _).trans (View.set_slice_whole _ _)
theorem send_set (j : Fin 17) : (sendSlot j).view.set = (rect2 j).set :=
  (View.set_reshape _ _).trans (View.set_slice_whole _ _)
theorem recv_set (j : Fin 17) : (recvSlot j).view.set = (rect4 j).set :=
  (View.set_reshape _ _).trans (View.set_slice_whole _ _)
theorem r_set (j : Fin 17) : (rSlot j).view.set = (rect2 j).set :=
  (View.set_reshape _ _).trans (View.set_slice_whole _ _)

/-! ## The values -/

theorem inbRows (d : Dev nD) : ∀ a, (![2048 * (d.val % 2), 0] : Fin 2 → ℕ) a + S2048x2048.size a ≤ S4096x2048.size a := by
  intro a; fin_cases a
  · show 2048 * (d.val % 2) + 2048 ≤ 4096; omega
  · show 0 + 2048 ≤ 2048; omega
/-- The rows of A a device works on. -/
abbrev rowsA (d : Dev nD) : Rect S4096x2048 := Rect.unit (s := S4096x2048) ![2048 * (d.val % 2), 0] S2048x2048.size (inbRows d)

/-- Those rows, rounded. -/
def A16 (c : Dev nD) : Vec F S2048x2048 .bf16 := truncf .bf16 (fun i => (m (lA c) : S4096x2048.Idx → F .f32) ((rowsA c).emb i)) bitsLt_bf16_f32
/-- Chunk `j` of the device's B, as its slot holds it. -/
def B3 (c : Dev nD) (j : Fin 17) : Vec F (P3 (wid j.val)) .f32 :=
  shapeCast (P3 (wid j.val)) ((bSrc j).view.read (Elt F) (m (lB c))) (p2_casts _ (wid_cases j))
/-- The product a device sends for chunk `j`, and the sum of its own and its neighbour's. -/
def V (c : Dev nD) (j : Fin 17) : Vec F (P3 (wid j.val)) .bf16 := prodW (wid j.val) (wid_cases j) (A16 m c) (B3 m c j)
def R (c : Dev nD) (j : Fin 17) : Vec F (P3 (wid j.val)) .bf16 := sumW (wid j.val) (wid_cases j) (V m c j) (V m (xp c) j)
/-- The sum as the result array takes it. -/
def R2 (c : Dev nD) (j : Fin 17) : Vec F (P2 (wid j.val)) .bf16 := shapeCast (P2 (wid j.val)) (R m c j) (p3_casts _ (wid_cases j))

/-- What is known of a slot's contents. -/
def isB (d : Dev nD) (j : Fin 17) (f : S2x2048x256.Idx → Elt F .f32) : Prop :=
  ((Memref.whole cc0_scratch2).access (rect2 j)).read (Elt F) f = B3 m d j
def isV (d : Dev nD) (j : Fin 17) (f : S2x2048x256.Idx → Elt F .bf16) : Prop :=
  ((Memref.whole cc0_scratch3).access (rect2 j)).read (Elt F) f = V m d j
def isVr (d : Dev nD) (j : Fin 17) (f : S4x2048x256.Idx → Elt F .bf16) : Prop :=
  ((Memref.whole cc0_scratch4).access (rect4 j)).read (Elt F) f = V m d j
def isR (d : Dev nD) (j : Fin 17) (f : S2x2048x256.Idx → Elt F .bf16) : Prop :=
  ((Memref.whole cc0_scratch5).access (rect2 j)).read (Elt F) f = R m d j
def isOut (d : Dev nD) (j : Fin 17) (f : S4096x4096.Idx → Elt F .bf16) : Prop :=
  (outAt d j).view.read (Elt F) f = R2 m d j
def isAf (c : Dev nD) (k : Fin 4) (f : S2048x2048.Idx → Elt F .f32) : Prop :=
  (aDst k).view.read (Elt F) f = (aSrc c k).view.read (Elt F) (m (lA c))

/-! ## Payments -/

/-- The quarter of the A operand each of the four fetches reads under; the half of the B operand, by the chunk's parity. -/
def qA : Fin 4 → PosShare TreeShare
  | 0 => fullShare.left.left | 1 => fullShare.left.right | 2 => fullShare.right.left | 3 => fullShare.right.right
def qB (n : ℕ) : PosShare TreeShare := if n % 2 = 0 then fullShare.left else fullShare.right

/-- The receive slot given for chunk `n`; a device's rows of chunk `j` in the result of device `c`. -/
abbrev recvFree (c : Dev nD) (n : ℕ) : sProp 𝕄 := free (lRecv c) (slot4 n)
abbrev outFree (c d : Dev nD) (j : Fin 17) : sProp 𝕄 := free (lOut c) (outAt d j).view.set
abbrev outHeld (c d : Dev nD) (j : Fin 17) : sProp 𝕄 := held (lOut c) (outAt d j).view.set fullShare (isOut m d j)
/-- The arguments, as launched. -/
abbrev argA (c : Dev nD) (q : PosShare TreeShare) : sProp 𝕄 := (lA c ↦[Finset.univ]{q} m (lA c))
abbrev argB (c : Dev nD) (q : PosShare TreeShare) : sProp 𝕄 := (lB c ↦[Finset.univ]{q} m (lB c))

/-- What the payment of each cell of device `c` hands over. The barrier's two come from the neighbour across `x` (its
    first two receive slots) and the one across `y` (its result's rows that `c` fills). Chunk `j`'s receive hands over
    the neighbour's product and the neighbour's receive slot for chunk `j + 2`. -/
def pay (c : Dev nD) : Option Own → Bool → sProp 𝕄
  | none, false => iprop(recvFree (xp c) 0 ∗ recvFree (xp c) 1)
  | none, true => bigSep Finset.univ fun j : Fin 17 => outFree (yp c) c j
  | some (.inl k), _ => iprop(argA m c (qA k) ∗ held (lAf c) (aDst k).view.set fullShare (isAf m c k))
  | some (.inr (0, j)), _ => iprop(argB m c (qB j.val) ∗ held (lBd c) (slot2 j.val) fullShare (isB m c j))
  | some (.inr (1, j)), _ => held (lSend c) (sendSlot j).view.set fullShare.left (isV m c j)
  | some (.inr (2, j)), _ => iprop(held (lRecv c) (slot4 j.val) fullShare (isVr m (xp c) j) ∗ if j.val ≤ 14 then recvFree (xp c) (j.val + 2) else emp)
  | some (.inr (3, j)), _ => held (lR c) (rSlot j).view.set fullShare.right (isR m c j)
  | some (.inr (4, j)), _ => outHeld m c (yp c) j
  | some (.inr (5, j)), _ => iprop(outHeld m c c j ∗ held (lR c) (rSlot j).view.set fullShare.left (isR m c j))

instance pay_storable (c : Dev nD) (k : Option Own) (b : Bool) : BI.Storable (upEmb : UEmb _ 𝕄) (pay m c k b) := by
  rcases k with _ | (k | ⟨a, j⟩)
  · cases b <;> (unfold pay; infer_instance)
  · unfold pay; infer_instance
  · fin_cases a
    · show BI.Storable upEmb iprop(argB m c (qB j.val) ∗ held (lBd c) (slot2 j.val) fullShare (isB m c j)); infer_instance
    · show BI.Storable upEmb (held (lSend c) (sendSlot j).view.set fullShare.left (isV m c j)); infer_instance
    · show BI.Storable upEmb iprop(held (lRecv c) (slot4 j.val) fullShare (isVr m (xp c) j) ∗ if j.val ≤ 14 then recvFree (xp c) (j.val + 2) else emp)
      split <;> infer_instance
    · show BI.Storable upEmb (held (lR c) (rSlot j).view.set fullShare.right (isR m c j)); infer_instance
    · show BI.Storable upEmb (outHeld m c (yp c) j); infer_instance
    · show BI.Storable upEmb iprop(outHeld m c c j ∗ held (lR c) (rSlot j).view.set fullShare.left (isR m c j)); infer_instance

/-- The duties of a cell: the barrier is paid by both neighbours, every other cell once. -/
def dutiesOf : Option (Option Own) → Finset Bool
  | some none => {false, true}
  | some (some _) => {false}
  | none => ∅
def amtOf : Option (Option Own) → ℕ
  | some (some o) => amt o
  | _ => 1

def Rd : Rounds.Schedule (GSem nD τ sig) Bool 𝕄 where
  duties g r := if r = 0 ∧ g.1.2 = .tc then dutiesOf (kindOf g.2) else ∅
  unitless _ := False
  amount g _ _ := amtOf (kindOf g.2)
  payload g _ b := match kindOf g.2 with
    | some k => pay m g.1.1 k b
    | none => iprop(emp)
  amount_pos g _ _ _ := by
    rcases kindOf g.2 with _ | _ | o
    · exact Nat.one_pos
    · exact Nat.one_pos
    · exact amt_pos o

instance Rd_payload_storable (g : GSem nD τ sig) (r : ℕ) (d : Bool) : BI.Storable (upEmb : UEmb _ 𝕄) ((Rd m).payload g r d) := by
  dsimp only [Rd]; split <;> infer_instance

section Tables
variable (c : Dev nD) (o : Own)

theorem duties_own : (Rd m).duties (cell c o) 0 = {false} := by
  dsimp only [Rd]; rw [if_pos ⟨rfl, rfl⟩, show osem o = ksem (some o) from rfl, kindOf_ksem]; rfl
theorem duties_bar : (Rd m).duties (barCell c) 0 = {false, true} := by
  dsimp only [Rd]; rw [if_pos ⟨rfl, rfl⟩, show SemLoc.reg barS.sem = ksem none from rfl, kindOf_ksem]; rfl
theorem duties_later (g : GSem nD τ sig) : ∀ r, 1 ≤ r → (Rd m).duties g r = ∅ := fun r hr => by
  dsimp only [Rd]; exact if_neg fun h => by omega
theorem amount_own (b : Bool) : (Rd m).amount (cell c o) 0 b = amt o := by
  dsimp only [Rd]; rw [show osem o = ksem (some o) from rfl, kindOf_ksem]; rfl
theorem amount_bar (b : Bool) : (Rd m).amount (barCell c) 0 b = 1 := by
  dsimp only [Rd]; rw [show SemLoc.reg barS.sem = ksem none from rfl, kindOf_ksem]; rfl
theorem payload_own (b : Bool) : (Rd m).payload (cell c o) 0 b = pay m c (some o) b := by
  dsimp only [Rd]; rw [show osem o = ksem (some o) from rfl, kindOf_ksem]
theorem payload_bar (b : Bool) : (Rd m).payload (barCell c) 0 b = pay m c none b := by
  dsimp only [Rd]; rw [show SemLoc.reg barS.sem = ksem none from rfl, kindOf_ksem]
theorem expect_own : (Rd m).expect (cell c o) 0 = amt o := by
  unfold Schedule.expect Schedule.amountOf; rw [duties_own, Finset.sum_singleton, amount_own]
theorem expect_bar : (Rd m).expect (barCell c) 0 = 2 := by
  unfold Schedule.expect Schedule.amountOf; rw [duties_bar, Finset.sum_pair (by decide), amount_bar, amount_bar]
theorem rest_own : bigSep ((Rd m).duties (cell c o) 0 \ ∅) (fun b => (Rd m).payload (cell c o) 0 b) = pay m c (some o) false := by
  rw [Finset.sdiff_empty, duties_own, bigSep_singleton, payload_own]
theorem rest_bar : bigSep ((Rd m).duties (barCell c) 0 \ ∅) (fun b => (Rd m).payload (barCell c) 0 b)
    = iprop(pay m c none false ∗ pay m c none true) := by
  rw [Finset.sdiff_empty, duties_bar, bigSep_insert (by decide), bigSep_singleton, payload_bar, payload_bar]; rfl

end Tables

/-! ## What a device owes; levels -/

/-- What a device owes its `x` neighbour's receive cells from chunk `j` on; its `y` neighbour's. -/
def dueX (c : Dev nD) (j : ℕ) : CellTallies nD τ sig Unit :=
  ∑ i ∈ Finset.univ.filter (fun i : Fin 17 => j ≤ i.val), tallyAt (cell (xp c) (oXR i)) () (amt (oXR i))
def dueY (c : Dev nD) (j : ℕ) : CellTallies nD τ sig Unit :=
  ∑ i ∈ Finset.univ.filter (fun i : Fin 17 => j ≤ i.val), tallyAt (cell (yp c) (oYR i)) () (amt (oYR i))
def due (c : Dev nD) (j f : ℕ) : CellTallies nD τ sig Unit := dueX c j + dueY c f
def O₁ (c : Dev nD) : CellTallies nD τ sig Unit := due c 0 0 + tallyAt (barCell (yp c)) () 1
def O₀ (c : Dev nD) : CellTallies nD τ sig Unit := O₁ c + tallyAt (barCell (xp c)) () 1

theorem filter_step (j : ℕ) (hj : j < 17) : Finset.univ.filter (fun i : Fin 17 => j ≤ i.val)
    = insert ⟨j, hj⟩ (Finset.univ.filter fun i : Fin 17 => j + 1 ≤ i.val) := by
  ext i; simp only [Finset.mem_filter, Finset.mem_univ, true_and, Finset.mem_insert, Fin.ext_iff]; omega
theorem dueX_step (c : Dev nD) (j : ℕ) (hj : j < 17) : dueX c j = dueX c (j + 1) + tallyAt (cell (xp c) (oXR ⟨j, hj⟩)) () (amt (oXR ⟨j, hj⟩)) := by
  unfold dueX; rw [filter_step j hj, Finset.sum_insert (by simp), add_comm]
theorem dueY_step (c : Dev nD) (j : ℕ) (hj : j < 17) : dueY c j = dueY c (j + 1) + tallyAt (cell (yp c) (oYR ⟨j, hj⟩)) () (amt (oYR ⟨j, hj⟩)) := by
  unfold dueY; rw [filter_step j hj, Finset.sum_insert (by simp), add_comm]
theorem due_stepX (c : Dev nD) (j f : ℕ) (hj : j < 17) : due c j f = due c (j + 1) f + tallyAt (cell (xp c) (oXR ⟨j, hj⟩)) () (amt (oXR ⟨j, hj⟩)) := by
  unfold due; rw [dueX_step c j hj, add_right_comm]
theorem due_stepY (c : Dev nD) (j f : ℕ) (hf : f < 17) : due c j f = due c j (f + 1) + tallyAt (cell (yp c) (oYR ⟨f, hf⟩)) () (amt (oYR ⟨f, hf⟩)) := by
  unfold due; rw [dueY_step c f hf, add_assoc]
theorem filter_17 : Finset.univ.filter (fun i : Fin 17 => 17 ≤ i.val) = ∅ :=
  Finset.filter_eq_empty_iff.mpr fun i _ => by omega
theorem due_end (c : Dev nD) : due c 17 17 = 0 := by
  unfold due dueX dueY; rw [filter_17, Finset.sum_empty, Finset.sum_empty, add_zero]

/-- The levels: what is waited for later is higher. -/
def lvK : Option Own → ℕ
  | none => 1
  | some (.inr (2, j)) => 2 + j.val
  | some (.inr (4, _)) => 40
  | some _ => 0
def lv (g : GSem nD τ sig) (_ : Unit) : ℕ := match kindOf g.2 with
  | some k => lvK k
  | none => 0
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_own (c : Dev nD) (o : Own) (u : Unit) : lv (cell c o) u = lvK (some o) := by
  dsimp only [lv]; rw [show osem o = ksem (some o) from rfl, kindOf_ksem]
theorem lv_bar (c : Dev nD) (u : Unit) : lv (barCell c) u = 1 := by
  dsimp only [lv]; rw [show SemLoc.reg barS.sem = ksem none from rfl, kindOf_ksem]; rfl

/-- Everything owed in `O` is at cells above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.sum {n : ℕ} {I : Type} [DecidableEq I] (S : Finset I) (Φ : I → CellTallies nD τ sig Unit) (h : ∀ i ∈ S, Above n (Φ i)) :
    Above n (∑ i ∈ S, Φ i) := by
  induction S using Finset.induction_on with
  | empty => rw [Finset.sum_empty]; exact .zero n
  | insert a S ha ih =>
    rw [Finset.sum_insert ha]
    exact (h a (Finset.mem_insert_self _ _)).add (ih fun i hi => h i (Finset.mem_insert_of_mem hi))
theorem Above.tally {n : ℕ} (d : Dev nD) (s : SemLoc sig) (k : ℕ) (h : n < lv ((d : Thread nD τ), s) ()) :
    Above n (tallyAt ((d : Thread nD τ), s) () k) := fun g u hg => by
  rw [tallyAt_apply] at hg
  by_cases hc : g = ((d : Thread nD τ), s) ∧ u = ()
  · rw [hc.1]; exact ⟨rfl, h⟩
  · rw [if_neg hc] at hg; exact absurd hg (Nat.lt_irrefl 0)
theorem Above.due {n : ℕ} (c : Dev nD) (j f : ℕ) (hn : n < 2 + j ∨ 17 ≤ j) (hn' : n < 40) : Above n (due c j f) := by
  refine .add (.sum _ _ fun i hi => .tally _ _ _ ?_) (.sum _ _ fun i hi => .tally _ _ _ ?_)
  · rw [lv_own]; show n < 2 + i.val
    have := (Finset.mem_filter.mp hi).2; omega
  · rw [lv_own]; exact hn'
theorem Above.due' {n : ℕ} (c : Dev nD) (hn : n < 1) : Above n (O₀ c) :=
  .add (.add (Above.due c 0 0 (by omega) (by omega)) (.tally _ _ _ (by rw [lv_bar]; exact hn))) (.tally _ _ _ (by rw [lv_bar]; exact hn))

theorem mayWait {n : ℕ} (c : Dev nD) (s : SemLoc sig) (O : CellTallies nD τ sig Unit) (hs : lv ((c : Thread nD τ), s) () ≤ n) (h : Above n O) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

end Cert.KernelIdeal.Proto

end
-- ==== Proof.Ideal.Steps.lean ====
/- One rule for each kind of step of the body: what it takes and what it gives back. -/
module

public import proofs.«01_k».proof.Proof.Ideal.Sched

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every step may use -/

/-- Every cell's invariant, that its round has started, and the levels. -/
def Ctx (K : Dev nD × Option Own → ℕ) : sProp 𝕄 :=
  iprop((bigSep Finset.univ fun ck : Dev nD × Option Own => cellInv ER (Rd m) (K ck) (kcell ck))
    ∗ (bigSep Finset.univ fun ck : Dev nD × Option Own => reached ER (kcell ck) 0) ∗ levAts L lv)

instance Ctx_persistent (K : Dev nD × Option Own → ℕ) : BI.Persistent (Ctx m K) := by unfold Ctx; infer_instance

theorem inv_at (K : Dev nD × Option Own → ℕ) (ck : Dev nD × Option Own) :
    (bigSep Finset.univ fun ck : Dev nD × Option Own => (cellInv ER (Rd m) (K ck) (kcell ck) : sProp 𝕄)) ⊢ cellInv ER (Rd m) (K ck) (kcell ck) :=
  bigSep_elim (Finset.mem_univ ck)
omit [FloatOps F] in
theorem reached_at (ck : Dev nD × Option Own) :
    (bigSep Finset.univ fun ck : Dev nD × Option Own => (reached ER (kcell ck) 0 : sProp 𝕄)) ⊢ reached ER (kcell ck) 0 :=
  bigSep_elim (Finset.mem_univ ck)
theorem ctx_inv (K : Dev nD × Option Own → ℕ) (ck : Dev nD × Option Own) : Ctx m K ⊢ cellInv ER (Rd m) (K ck) (kcell ck) := by
  unfold Ctx
  iintro ⟨H, -, -⟩
  iapply (inv_at m K ck); iexact H
theorem ctx_reached (K : Dev nD × Option Own → ℕ) (ck : Dev nD × Option Own) : Ctx m K ⊢ reached ER (kcell ck) 0 := by
  unfold Ctx
  iintro ⟨-, H, -⟩
  iapply (reached_at (F := F) ck); iexact H
theorem ctx_lev (K : Dev nD × Option Own → ℕ) : Ctx m K ⊢ levAts L lv := by
  unfold Ctx
  iintro ⟨-, -, H⟩; iexact H

/-- A cell before its transfer, while it is out, and after it has been waited for. -/
def fresh (c : Dev nD) (o : Own) : sProp 𝕄 := iprop(dutyTok ER (cell c o) 0 false ∗ atPos ER (cell c o) 0 ∅ 0)
def pend (c : Dev nD) (o : Own) : sProp 𝕄 := iprop(cred (tallyAt (cell c o) () (amt o)) ∗ atPos ER (cell c o) 0 ∅ 0)
def ended (c : Dev nD) (o : Own) : sProp 𝕄 := atPos ER (cell c o) 1 ∅ 0
/-- What the device owes, whatever it has waited for. -/
def Owes (c : Dev nD) (O : CellTallies nD τ sig Unit) : sProp 𝕄 := iprop(∃ W, owes (c : Thread nD τ) O W)

variable (K : Dev nD × Option Own → ℕ) (c : Dev nD)

abbrev wpc (Kt : PUnit → sProp 𝕄) (k : P F) : sProp 𝕄 := wp frame (wpE (defs₀ (F := F)) 𝒱₀ (c : Thread nD τ) none) Set.univ k Kt

/-- A wait for a transfer's cell. -/
theorem wp_await (Kt : PUnit → sProp 𝕄) {sp sp' : Space} {s s' : Shape} {e e' : EltTy} {src : Memref sig .tc sp s e} {dst : Memref sig .tc sp' s' e'} {hsrc : src.view.WordExact} {hdst : dst.view.WordExact}
    (o : Own) {q : DmaSem sig} (hq : osem o = .dma q) (hN : dst.view.dmaCredit = amt o) {O : CellTallies nD τ sig Unit} (hO : Above (lvK (some o)) O) {k : P F} :
    iprop(Ctx m K ∗ pend c o ∗ Owes c O)
      ⊢ iprop(((Owes c O ∗ ended c o ∗ pay m c (some o) false) -∗ wpc c Kt k) -∗ wpc c Kt (.op (.waitDma2 q src dst hsrc hdst) fun _ => k)) := by
  unfold pend Owes ended
  iintro ⟨#HC, ⟨Hc, Hat⟩, %W, HO⟩ Hk
  iapply (Rounds.wp_wait_rest_token 𝒱₀ ER (Rd m) (c : Thread nD τ) none (κ := K (c, some o)) (sm := osem o) (k' := amt o)
      (fun K' => by rw [hq, ← hN]; exact wpE_waitDma2_eq 𝒱₀ (c : Thread nD τ) none Set.univ K') (Set.mem_univ _) () (O := O) (W := W) (R := 0) (m := 0) (T := ∅)
      (by rw [Nat.zero_add]; exact (expect_own m c o).symm)) $$ [Hc HO Hat]
  · isplitr; · iapply (ctx_inv m K (c, some o)); iexact HC
    isplitl [Hc]; · iexact Hc
    isplitl [HO]; · iexact HO
    isplitr
    · iapply (mayWait c (osem o) O (le_of_eq (lv_own c o ())) hO); iapply (ctx_lev m K); iexact HC
    iexact Hat
  iintro ⟨HO, Hat, -, Hp⟩
  ihave Hp := (Entails.of_eq (rest_own m c o)) $$ Hp
  iapply Hk
  isplitl [HO]; · iexists _; iexact HO
  isplitl [Hat]; · iexact Hat
  iexact Hp

/-- A local copy on one of the device's cells: from a source read at any share into a region held whole. -/
theorem wp_local (Kt : PUnit → sProp 𝕄) {sp sp' : Space} {s : Shape} {e : EltTy} {src : Memref sig .tc sp s e} {dst : Memref sig .tc sp' s e} {hsrc : src.view.WordExact} {hdst : dst.view.WordExact}
    (o : Own) {sm : SemLoc sig} {hsem : DmaTarget.Typed sp sm (DmaTarget.here dst : DmaTarget nD τ sig Proc.tc sp' s e)} (hq : sm = osem o) (hN : dst.view.amount (osem o) = amt o)
    {S : Finset (Idx (dst.view.loc (c : Thread nD τ)))} {Pd Qd : Buf (Elt F) (dst.view.loc (c : Thread nD τ)) → Prop} {q : PosShare TreeShare} {fs : Buf (Elt F) (src.view.loc (c : Thread nD τ))} {Fr : sProp 𝕄}
    (hsub : dst.view.set ⊆ S) (hw : ∀ f, Pd f → Qd (dst.view.write (Elt F) f (src.view.read (Elt F) fs) Finset.univ))
    (hpay : iprop((held (dst.view.loc (c : Thread nD τ)) S fullShare Qd ∗ Fr) ∗ (src.view.loc (c : Thread nD τ) ↦[src.view.set]{q} fs)) ⊢ pay m c (some o) false) {k : P F} :
    iprop(Ctx m K ∗ fresh c o ∗ (src.view.loc (c : Thread nD τ) ↦[src.view.set]{q} fs) ∗ Fr ∗ held (dst.view.loc (c : Thread nD τ)) S fullShare Pd)
      ⊢ iprop((pend c o -∗ wpc c Kt k) -∗ wpc c Kt (.op (.enqueueDma src (.here dst) sm hsrc hdst hsem) fun _ => k)) := by
  subst hq
  unfold fresh pend
  iintro ⟨#HC, ⟨Ht, Hat⟩, Hs, HF, Hd⟩ Hk
  ihave Hd := (held_writeUpdate (c : Thread nD τ) (v := dst.view) (Q := Qd) hsub hw) $$ Hd
  iapply (Rounds.wp_copy 𝒱₀ ER (Rd m) (c : Thread nD τ) none (κ := K (c, some o)) (r := 0) (d := false)
      (by rw [duties_own]; exact Finset.mem_singleton_self _) () (amt o) hN (amount_own m c o false)
      (hpay.trans (Entails.of_eq (payload_own m c o false).symm))) $$ [Ht Hs HF Hd]
  · isplitr; · iapply (ctx_inv m K (c, some o)); iexact HC
    isplitl [Hs]; · iexact Hs
    isplitl [HF Hd]
    · iapply (writeUpdate_frame (c : Thread nD τ))
      isplitl [Hd] <;> iassumption
    isplitl [Ht]; · iexact Ht
    iapply (ctx_reached m K (c, some o)); iexact HC
  iintro Hc
  iapply Hk
  isplitl [Hc]; · iexact Hc
  iexact Hat

/-- A transfer to device `c'`, from one of the device's cells to one of that device's, into a region of that device's
    held here, with `Fr` handed over beside it. -/
theorem wp_across (Kt : PUnit → sProp 𝕄) {sp sp' : Space} {s : Shape} {e : EltTy} {c' n : Dev nD} (hn : n = c') {src : Memref sig .tc sp s e} {dst : Memref sig .tc sp' s e} {hsrc : src.view.WordExact} {hdst : dst.view.WordExact}
    (o o' : Own) {sm sm' : SemLoc sig} {hsc : dst.view.ref.isScScratch = false} {hsem : DmaTarget.Typed sp sm' (.remote (Dev.tc n : Thread nD τ) dst sm hsc)} (hq : sm = osem o) (hq' : sm' = osem o')
    (hN : dst.view.amount (osem o') = amt o') (hoo : amt o = amt o')
    {S : Finset (Idx (dst.view.loc (c' : Thread nD τ)))} {Pd Qd : Buf (Elt F) (dst.view.loc (c' : Thread nD τ)) → Prop} {q : PosShare TreeShare} {fs : Buf (Elt F) (src.view.loc (c : Thread nD τ))} {Fr : sProp 𝕄}
    (hsub : dst.view.set ⊆ S) (hw : ∀ f, Pd f → Qd (dst.view.write (Elt F) f (src.view.read (Elt F) fs) Finset.univ))
    (hpay : (src.view.loc (c : Thread nD τ) ↦[src.view.set]{q} fs) ⊢ pay m c (some o) false)
    (hpay' : iprop(held (dst.view.loc (c' : Thread nD τ)) S fullShare Qd ∗ Fr) ⊢ pay m c' (some o') false)
    {O₀ : CellTallies nD τ sig Unit} (O : CellTallies nD τ sig Unit) (hO : O₀ = O + tallyAt (cell c' o') () (amt o')) {k : P F} :
    iprop(Ctx m K ∗ fresh c o ∗ dutyTok ER (cell c' o') 0 false ∗ (src.view.loc (c : Thread nD τ) ↦[src.view.set]{q} fs) ∗ Fr ∗ held (dst.view.loc (c' : Thread nD τ)) S fullShare Pd ∗ Owes c O₀)
      ⊢ iprop(((pend c o ∗ Owes c O) -∗ wpc c Kt k) -∗ wpc c Kt (.op (.enqueueDma src (.remote (Dev.tc n : Thread nD τ) dst sm hsc) sm' hsrc hdst hsem) fun _ => k)) := by
  subst hq hq' hn
  unfold fresh pend Owes
  iintro ⟨#HC, ⟨Ht, Hat⟩, Ht', Hs, HF, Hd, %W, HO⟩ Hk
  ihave Hd := (held_writeUpdate (n : Thread nD τ) (v := dst.view) (Q := Qd) hsub hw) $$ Hd
  iapply (Rounds.wp_send 𝒱₀ ER (Rd m) (c : Thread nD τ) none (c' := (n : Thread nD τ)) (κ₁ := K (c, some o)) (κ₂ := K (n, some o')) (r₁ := 0) (r₂ := 0) (d₁ := false) (d₂ := false)
      (by rw [duties_own]; exact Finset.mem_singleton_self _) (by rw [duties_own]; exact Finset.mem_singleton_self _) () () (amt o') hN ((amount_own m c o false).trans hoo) (amount_own m n o' false)
      O hO (W := W) (hpay.trans (Entails.of_eq (payload_own m c o false).symm)) (hpay'.trans (Entails.of_eq (payload_own m n o' false).symm))) $$ [Ht Ht' Hs HF Hd HO]
  · isplitr; · iapply (ctx_inv m K (c, some o)); iexact HC
    isplitr; · iapply (ctx_inv m K (n, some o')); iexact HC
    isplitl [Hs]; · iexact Hs
    isplitl [HF Hd]
    · iapply (writeUpdate_frame (n : Thread nD τ))
      isplitl [Hd] <;> iassumption
    isplitl [HO]; · iexact HO
    isplitl [Ht]; · iexact Ht
    isplitr; · iapply (ctx_reached m K (c, some o)); iexact HC
    isplitl [Ht']; · iexact Ht'
    iapply (ctx_reached m K (n, some o')); iexact HC
  iintro ⟨Hc, HO⟩
  iapply Hk
  isplitl [Hc Hat]
  · isplitl [Hc]; · rw [hoo]; iexact Hc
    iexact Hat
  iexists W; iexact HO

/-! ## Slots read as one block or as a matrix -/

theorem cast_back {w : ℕ} {α : Type} (hw : w = 128 ∨ w = 256) {x : (P3 w).Idx → α} {y : (P2 w).Idx → α} (h : shapeCast (P2 w) x (p3_casts w hw) = y) :
    x = shapeCast (P3 w) y (p2_casts w hw) := by
  rw [← h, shapeCast_shapeCast]

/-- A slot into which a matrix was copied reads as that matrix's block. -/
theorem bd_written (j : Fin 17) (f : S2x2048x256.Idx → Elt F .f32) (w : (P2 (wid j.val)).Idx → Elt F .f32) :
    ((Memref.whole cc0_scratch2).access (rect2 j)).read (Elt F) ((bdSlot j).view.write (Elt F) f w Finset.univ) = shapeCast (P3 (wid j.val)) w (p2_casts _ (wid_cases j)) :=
  cast_back (wid_cases j) (View.read_write_univ (v := (bdSlot j).view) f w)
theorem recv_written (j : Fin 17) (f : S4x2048x256.Idx → Elt F .bf16) (w : (P2 (wid j.val)).Idx → Elt F .bf16) :
    ((Memref.whole cc0_scratch4).access (rect4 j)).read (Elt F) ((recvSlot j).view.write (Elt F) f w Finset.univ) = shapeCast (P3 (wid j.val)) w (p2_casts _ (wid_cases j)) :=
  cast_back (wid_cases j) (View.read_write_univ (v := (recvSlot j).view) f w)
theorem send_read {d : Dev nD} {j : Fin 17} {f : S2x2048x256.Idx → Elt F .bf16} (h : isV m d j f) :
    (sendSlot j).view.read (Elt F) f = shapeCast (P2 (wid j.val)) (V m d j) (p3_casts _ (wid_cases j)) :=
  congrArg (fun x => shapeCast (P2 (wid j.val)) x (p3_casts _ (wid_cases j))) h
theorem r_read {d : Dev nD} {j : Fin 17} {f : S2x2048x256.Idx → Elt F .bf16} (h : isR m d j f) :
    (rSlot j).view.read (Elt F) f = R2 m d j :=
  congrArg (fun x => shapeCast (P2 (wid j.val)) x (p3_casts _ (wid_cases j))) h

theorem send_stored (j : Fin 17) :
    (held (lSend c) (slot2 j.val) fullShare (fun f => ((Memref.whole cc0_scratch3).access (rect2 j)).read (Elt F) f
      = prodW (wid j.val) (wid_cases j) (A16 m c) (B3 m c j)) : sProp 𝕄) ⊢ held (lSend c) (slot2 j.val) fullShare (isV m c j) := .rfl
theorem r_stored (j : Fin 17) :
    (held (lR c) (slot2 j.val) fullShare (fun f => ((Memref.whole cc0_scratch5).access (rect2 j)).read (Elt F) f
      = sumW (wid j.val) (wid_cases j) (V m c j) (V m (xp c) j)) : sProp 𝕄) ⊢ held (lR c) (slot2 j.val) fullShare (isR m c j) := .rfl
theorem out_written (d : Dev nD) (j : Fin 17) {g : S2x2048x256.Idx → Elt F .bf16} (h : isR m d j g) (f : S4096x4096.Idx → Elt F .bf16) :
    isOut m d j ((outAt d j).view.write (Elt F) f ((rSlot j).view.read (Elt F) g) Finset.univ) :=
  (View.read_write_univ (v := (outAt d j).view) f _).trans (r_read m h)
theorem recv_sent (d : Dev nD) (j : Fin 17) {g : S2x2048x256.Idx → Elt F .bf16} (h : isV m d j g) (f : S4x2048x256.Idx → Elt F .bf16) :
    isVr m d j ((recvSlot j).view.write (Elt F) f ((sendSlot j).view.read (Elt F) g) Finset.univ) :=
  (recv_written j f _).trans (by rw [send_read m h, shapeCast_shapeCast])

/-! ## Fetching B -/

theorem wp_fetchB (Kt : PUnit → sProp 𝕄) (j : Fin 17) {k : P F} :
    iprop(Ctx m K ∗ fresh c (oB j) ∗ argB m c (qB j.val) ∗ free (lBd c) (slot2 j.val))
      ⊢ iprop((pend c (oB j) -∗ wpc c Kt k) -∗ wpc c Kt (fetchB j k)) := by
  iintro ⟨#HC, Hf, HB, Hd⟩ Hk
  ihave HB := (pointsTo_split_subset (Finset.subset_univ (bSrc j).view.set)).1 $$ HB
  icases HB with ⟨HB, HB'⟩
  iapply (wp_local m K c Kt (src := bSrc j) (dst := bdSlot j) (oB j) rfl rfl (S := slot2 j.val) (Pd := fun _ => True) (Qd := isB m c j) (q := qB j.val) (fs := m (lB c))
    (Fr := (lB c ↦[Finset.univ \ (bSrc j).view.set]{qB j.val} m (lB c)))
    (by rw [bd_set]; exact rect2_sub j) (fun f _ => bd_written j f _)
    (by
      show _ ⊢ iprop(argB m c (qB j.val) ∗ held (lBd c) (slot2 j.val) fullShare (isB m c j))
      iintro ⟨⟨Hd, HB'⟩, HB⟩
      isplitl [HB HB']
      · iapply (pointsTo_split_subset (Finset.subset_univ (bSrc j).view.set)).2
        isplitl [HB] <;> iassumption
      iexact Hd)) $$ [Hf HB HB' Hd]
  · isplitr; · iexact HC
    isplitl [Hf]; · iexact Hf
    isplitl [HB]; · iexact HB
    isplitl [HB']; · iexact HB'
    iexact Hd
  iexact Hk

theorem wp_awaitB (Kt : PUnit → sProp 𝕄) (j : Fin 17) {O : CellTallies nD τ sig Unit} (hO : Above 0 O) {k : P F} :
    iprop(Ctx m K ∗ pend c (oB j) ∗ Owes c O)
      ⊢ iprop(((Owes c O ∗ ended c (oB j) ∗ argB m c (qB j.val) ∗ held (lBd c) (slot2 j.val) fullShare (isB m c j)) -∗ wpc c Kt k) -∗ wpc c Kt (awaitB j k)) :=
  wp_await m K c Kt (oB j) rfl rfl hO

/-! ## The products across `x` -/

/-- What a device keeps of chunk `j`'s product while it is being sent. -/
def keep (j : Fin 17) : sProp 𝕄 :=
  iprop(held (lSend c) (sendSlot j).view.set fullShare.right (isV m c j) ∗ free (lSend c) (slot2 j.val \ (sendSlot j).view.set))

theorem wp_product (Kt : PUnit → sProp 𝕄) (j : Fin 17) {k : P F} :
    iprop(held (lAb c) Finset.univ fullShare (fun f => f = A16 m c) ∗ held (lBd c) (slot2 j.val) fullShare (isB m c j) ∗ free (lSend c) (slot2 j.val))
      ⊢ iprop(((held (lAb c) Finset.univ fullShare (fun f => f = A16 m c) ∗ free (lBd c) (slot2 j.val) ∗ held (lSend c) (slot2 j.val) fullShare (isV m c j)) -∗ wpc c Kt k)
        -∗ wpc c Kt (product j k)) := by
  unfold product
  iintro ⟨HA, HB, HV⟩ Hk
  iapply (wp_load_held 𝒱₀ (c : Thread nD τ) none Set.univ (m := Memref.whole cc0_scratch1) (r := Rect.unit (s := S2048x2048) ![0, 0] S2048x2048.size inb_S2048x2048_S2048x2048_0_0) (A16 m c) (S := Finset.univ) (P := fun f => f = A16 m c) (Finset.subset_univ _)
    (fun f hf => by rw [hf]; exact Memref.readAt_unit_zero (Elt F) cc0_scratch1 (funext fun a => by fin_cases a <;> rfl) _ _)) $$ HA
  iintro HA
  iapply (wp_load_held 𝒱₀ (c : Thread nD τ) none Set.univ (m := Memref.whole cc0_scratch2) (r := rect2 j) (B3 m c j) (S := slot2 j.val) (P := isB m c j)
    (by rw [View.set_slice_whole]; exact rect2_sub j) (fun f hf => hf)) $$ HB
  iintro HB
  iapply (wp_load_drop 𝒱₀ (c : Thread nD τ) none Set.univ (m := Memref.whole cc0_scratch3) (r := rect2 j) (S := slot2 j.val) (P := fun _ => True)
    (by rw [View.set_slice_whole]; exact rect2_sub j)) $$ HV
  iintro HV
  iapply (wp_store_read 𝒱₀ (c : Thread nD τ) none Set.univ (m := Memref.whole cc0_scratch3) (r := rect2 j) (w := prodW (wid j.val) (wid_cases j) (A16 m c) (B3 m c j)) (S := slot2 j.val) (by rw [View.set_slice_whole]; exact rect2_sub j)) $$ HV
  iintro HV
  ihave HV := send_stored m c j $$ HV
  iapply Hk
  isplitl [HA]; · iexact HA
  isplitl [HB]; · iapply (held_forget (P := isB m c j)); iexact HB
  iexact HV

theorem wp_sendX (Kt : PUnit → sProp 𝕄) (j : Fin 17) (f : ℕ) {k : P F} :
    iprop(Ctx m K ∗ fresh c (oXS j) ∗ dutyTok ER (cell (xp c) (oXR j)) 0 false ∗ held (lSend c) (slot2 j.val) fullShare (isV m c j)
        ∗ recvFree (xp c) j.val ∗ (if j.val ≤ 14 then recvFree c (j.val + 2) else emp) ∗ Owes c (due c j.val f))
      ⊢ iprop(((pend c (oXS j) ∗ Owes c (due c (j.val + 1) f) ∗ keep m c j) -∗ wpc c Kt k) -∗ wpc c Kt (sendX c j k)) := by
  iintro ⟨#HC, Hf, Ht, HV, HN, HG, HO⟩ Hk
  ihave HV := (held_split (P := isV m c j) (by rw [send_set]; exact rect2_sub j : (sendSlot j).view.set ⊆ slot2 j.val)) $$ HV
  icases HV with ⟨HL, HR, HS⟩
  ihave HL := held_ex $$ HL
  icases HL with ⟨%g, %hg, HL⟩
  iapply (wp_across m K c Kt (c' := xp c) (xDev_eq c j) (src := sendSlot j) (dst := recvSlot j) (oXS j) (oXR j) rfl rfl rfl rfl
    (S := slot4 j.val) (Pd := fun _ => True) (Qd := isVr m c j) (q := fullShare.left) (fs := g) (Fr := iprop(if j.val ≤ 14 then recvFree c (j.val + 2) else emp))
    (by rw [recv_set]; exact rect4_sub j)
    (fun f _ => recv_sent m c j hg f)
    (held_intro hg)
    (by
      show _ ⊢ iprop(held (lRecv (xp c)) (slot4 j.val) fullShare (isVr m (xp (xp c)) j) ∗ if j.val ≤ 14 then recvFree (xp (xp c)) (j.val + 2) else emp)
      rw [xp_xp])
    (due c (j.val + 1) f) (due_stepX c j.val f j.isLt)) $$ [Hf Ht HL HN HG HO]
  · isplitr; · iexact HC
    isplitl [Hf]; · iexact Hf
    isplitl [Ht]; · iexact Ht
    isplitl [HL]; · iexact HL
    isplitl [HG]; · iexact HG
    isplitl [HN]; · iexact HN
    iexact HO
  iintro ⟨Hp, HO⟩
  iapply Hk
  isplitl [Hp]; · iexact Hp
  isplitl [HO]; · iexact HO
  unfold keep
  isplitl [HR]; · iexact HR
  iexact HS

theorem wp_awaitXS_raw (Kt : PUnit → sProp 𝕄) (j : Fin 17) {O : CellTallies nD τ sig Unit} (hO : Above 0 O) {k : P F} :
    iprop(Ctx m K ∗ pend c (oXS j) ∗ Owes c O)
      ⊢ iprop(((Owes c O ∗ ended c (oXS j) ∗ held (lSend c) (sendSlot j).view.set fullShare.left (isV m c j)) -∗ wpc c Kt k) -∗ wpc c Kt (awaitXS j k)) :=
  wp_await m K c Kt (oXS j) rfl (credit_send j) hO

/-- The product has left: its slot is free again. -/
theorem wp_awaitXS (Kt : PUnit → sProp 𝕄) (j : Fin 17) {O : CellTallies nD τ sig Unit} (hO : Above 0 O) {k : P F} :
    iprop(Ctx m K ∗ pend c (oXS j) ∗ keep m c j ∗ Owes c O)
      ⊢ iprop(((Owes c O ∗ ended c (oXS j) ∗ free (lSend c) (slot2 j.val)) -∗ wpc c Kt k) -∗ wpc c Kt (awaitXS j k)) := by
  unfold keep
  iintro ⟨#HC, Hp, ⟨HR, HS⟩, HO⟩ Hk
  iapply (wp_awaitXS_raw m K c Kt j hO) $$ [Hp HO]
  · isplitr; · iexact HC
    isplitl [Hp] <;> iassumption
  iintro ⟨HO, He, HL⟩
  iapply Hk
  isplitl [HO]; · iexact HO
  isplitl [He]; · iexact He
  iapply (held_join (P := isV m c j) (Q := isV m c j) (R := fun _ => True) (by rw [send_set]; exact rect2_sub j : (sendSlot j).view.set ⊆ slot2 j.val))
  isplitl [HL]; · iexact HL
  isplitl [HR]; · iexact HR
  iexact HS

theorem wp_awaitXR (Kt : PUnit → sProp 𝕄) (j : Fin 17) {O : CellTallies nD τ sig Unit} (hO : Above (2 + j.val) O) {k : P F} :
    iprop(Ctx m K ∗ pend c (oXR j) ∗ Owes c O)
      ⊢ iprop(((Owes c O ∗ ended c (oXR j) ∗ held (lRecv c) (slot4 j.val) fullShare (isVr m (xp c) j) ∗ if j.val ≤ 14 then recvFree (xp c) (j.val + 2) else emp) -∗ wpc c Kt k)
        -∗ wpc c Kt (awaitXR j k)) :=
  wp_await m K c Kt (oXR j) rfl rfl hO

/-! ## The sums -/

theorem wp_addUp (Kt : PUnit → sProp 𝕄) (j : Fin 17) {k : P F} :
    iprop(keep m c j ∗ held (lRecv c) (slot4 j.val) fullShare (isVr m (xp c) j) ∗ free (lR c) (slot2 j.val))
      ⊢ iprop(((keep m c j ∗ recvFree c j.val ∗ held (lR c) (slot2 j.val) fullShare (isR m c j)) -∗ wpc c Kt k) -∗ wpc c Kt (addUp j k)) := by
  unfold addUp keep
  iintro ⟨⟨HV, HS⟩, HW, HR⟩ Hk
  iapply (wp_load_held 𝒱₀ (c : Thread nD τ) none Set.univ (m := Memref.whole cc0_scratch3) (r := rect2 j) (V m c j) (S := (sendSlot j).view.set) (P := isV m c j)
    (by rw [send_set]; exact (View.set_slice_whole _ _).subset) (fun f hf => hf)) $$ HV
  iintro HV
  iapply (wp_load_held 𝒱₀ (c : Thread nD τ) none Set.univ (m := Memref.whole cc0_scratch4) (r := rect4 j) (V m (xp c) j) (S := slot4 j.val) (P := isVr m (xp c) j)
    (by rw [View.set_slice_whole]; exact rect4_sub j) (fun f hf => hf)) $$ HW
  iintro HW
  iapply (wp_load_drop 𝒱₀ (c : Thread nD τ) none Set.univ (m := Memref.whole cc0_scratch5) (r := rect2 j) (S := slot2 j.val) (P := fun _ => True)
    (by rw [View.set_slice_whole]; exact rect2_sub j)) $$ HR
  iintro HR
  iapply (wp_store_read 𝒱₀ (c : Thread nD τ) none Set.univ (m := Memref.whole cc0_scratch5) (r := rect2 j) (w := sumW (wid j.val) (wid_cases j) (V m c j) (V m (xp c) j)) (S := slot2 j.val) (by rw [View.set_slice_whole]; exact rect2_sub j)) $$ HR
  iintro HR
  ihave HR := r_stored m c j $$ HR
  iapply Hk
  isplitl [HV HS]
  · isplitl [HV] <;> iassumption
  isplitl [HW]; · iapply (held_forget (P := isVr m (xp c) j)); iexact HW
  iexact HR

/-- What is kept of chunk `j`'s slot of the sums while both its copies are out. -/
abbrev rRest (j : Fin 17) : sProp 𝕄 := free (lR c) (slot2 j.val \ (rSlot j).view.set)

theorem wp_putHere (Kt : PUnit → sProp 𝕄) (j : Fin 17) {k : P F} :
    iprop(Ctx m K ∗ fresh c (oL j) ∗ held (lR c) (rSlot j).view.set fullShare.left (isR m c j) ∗ outFree c c j)
      ⊢ iprop((pend c (oL j) -∗ wpc c Kt k) -∗ wpc c Kt (putHere c j k)) := by
  iintro ⟨#HC, Hf, HR, HN⟩ Hk
  ihave HR := held_ex $$ HR
  icases HR with ⟨%g, %hg, HR⟩
  iapply (wp_local m K c Kt (src := rSlot j) (dst := outAt c j) (oL j) rfl (credit_out c j) (S := (outAt c j).view.set) (Pd := fun _ => True) (Qd := isOut m c j) (q := fullShare.left) (fs := g)
    (Fr := iprop(emp)) (Finset.Subset.refl _)
    (fun f _ => out_written m c j hg f)
    (by
      show _ ⊢ iprop(outHeld m c c j ∗ held (lR c) (rSlot j).view.set fullShare.left (isR m c j))
      iintro ⟨⟨Hd, -⟩, Hs⟩
      isplitl [Hd]; · iexact Hd
      iapply (held_intro hg); iexact Hs)) $$ [Hf HR HN]
  · isplitr; · iexact HC
    isplitl [Hf]; · iexact Hf
    isplitl [HR]; · iexact HR
    isplitr; · iempintro
    iexact HN
  iexact Hk

theorem wp_putAcross (Kt : PUnit → sProp 𝕄) (j : Fin 17) (n : ℕ) {k : P F} :
    iprop(Ctx m K ∗ fresh c (oYS j) ∗ dutyTok ER (cell (yp c) (oYR j)) 0 false ∗ held (lR c) (rSlot j).view.set fullShare.right (isR m c j)
        ∗ outFree (yp c) c j ∗ Owes c (due c n j.val))
      ⊢ iprop(((pend c (oYS j) ∗ Owes c (due c n (j.val + 1))) -∗ wpc c Kt k) -∗ wpc c Kt (putAcross c j k)) := by
  iintro ⟨#HC, Hf, Ht, HR, HN, HO⟩ Hk
  ihave HR := held_ex $$ HR
  icases HR with ⟨%g, %hg, HR⟩
  iapply (wp_across m K c Kt (c' := yp c) (yDev_eq c j) (src := rSlot j) (dst := outAt c j) (oYS j) (oYR j) rfl rfl (credit_out c j) rfl
    (S := (outAt c j).view.set) (Pd := fun _ => True) (Qd := isOut m c j) (q := fullShare.right) (fs := g) (Fr := iprop(emp)) (Finset.Subset.refl _)
    (fun f _ => out_written m c j hg f)
    (held_intro hg)
    (by
      show _ ⊢ held (lOut (yp c)) (outAt (yp (yp c)) j).view.set fullShare (isOut m (yp (yp c)) j)
      rw [yp_yp]
      iintro ⟨Hd, -⟩; iexact Hd)
    (due c n (j.val + 1)) (due_stepY c n j.val j.isLt)) $$ [Hf Ht HR HN HO]
  · isplitr; · iexact HC
    isplitl [Hf]; · iexact Hf
    isplitl [Ht]; · iexact Ht
    isplitl [HR]; · iexact HR
    isplitr; · iempintro
    isplitl [HN]; · iexact HN
    iexact HO
  iexact Hk

theorem wp_awaitYS (Kt : PUnit → sProp 𝕄) (d : Dev nD) (j : Fin 17) {O : CellTallies nD τ sig Unit} (hO : Above 0 O) {k : P F} :
    iprop(Ctx m K ∗ pend c (oYS j) ∗ Owes c O)
      ⊢ iprop(((Owes c O ∗ ended c (oYS j) ∗ held (lR c) (rSlot j).view.set fullShare.right (isR m c j)) -∗ wpc c Kt k) -∗ wpc c Kt (awaitYS d j k)) :=
  wp_await m K c Kt (oYS j) rfl (credit_r j) hO

theorem wp_awaitL (Kt : PUnit → sProp 𝕄) (d : Dev nD) (j : Fin 17) {O : CellTallies nD τ sig Unit} (hO : Above 0 O) {k : P F} :
    iprop(Ctx m K ∗ pend c (oL j) ∗ Owes c O)
      ⊢ iprop(((Owes c O ∗ ended c (oL j) ∗ outHeld m c c j ∗ held (lR c) (rSlot j).view.set fullShare.left (isR m c j)) -∗ wpc c Kt k) -∗ wpc c Kt (awaitL d j k)) :=
  wp_await m K c Kt (oL j) rfl (credit_out d j) hO

theorem wp_awaitYR (Kt : PUnit → sProp 𝕄) (d : Dev nD) (j : Fin 17) {k : P F} :
    iprop(Ctx m K ∗ pend c (oYR j) ∗ Owes c 0)
      ⊢ iprop(((Owes c 0 ∗ ended c (oYR j) ∗ outHeld m c (yp c) j) -∗ wpc c Kt k) -∗ wpc c Kt (awaitYR d j k)) :=
  wp_await m K c Kt (oYR j) rfl (credit_out d j) (Above.zero _)

/-- Both copies of chunk `j`'s sum are made: its slot is free again. -/
theorem r_back (j : Fin 17) :
    iprop(held (lR c) (rSlot j).view.set fullShare.left (isR m c j) ∗ held (lR c) (rSlot j).view.set fullShare.right (isR m c j) ∗ rRest c j) ⊢ free (lR c) (slot2 j.val) :=
  held_join (ℓ := lR c) (S := slot2 j.val) (V := (rSlot j).view.set) (P := isR m c j) (Q := isR m c j) (R := fun _ => True) (by rw [r_set]; exact rect2_sub j : (rSlot j).view.set ⊆ slot2 j.val)

end Cert.KernelIdeal.Proto

end
-- ==== Proof.Ideal.Enter.lean ====
/- The rules for the body's start: the blocks of A fetched, rounded and laid side by side, and the handshake with both
   neighbours. -/
module

public import proofs.«01_k».proof.Proof.Ideal.Steps

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

local notation "𝕄" => MT nD τ sig Unit (Elt F) ℕ UU ℕ

variable (m : (ℓ : Loc nD τ sig) → Buf (Elt F) ℓ)

/-! ## Block by block, A -/

/-- The first `n` column blocks of the staged copy are the rounded rows of A. -/
def isAb (c : Dev nD) (n : ℕ) (f : S2048x2048.Idx → Elt F .bf16) : Prop := ∀ i : S2048x2048.Idx, (i 1).val < 512 * n → f i = A16 m c i

theorem isAb_all {c : Dev nD} {f : S2048x2048.Idx → Elt F .bf16} (h : isAb m c 4 f) : f = A16 m c := funext fun i => h i (i 1).isLt

/-- The place in A that a block's element comes from. -/
theorem aSrc_emb (c : Dev nD) (k : Fin 4) (x : S2048x512.Idx) :
    (Rect.unit (s := S4096x2048) (aOff c k) S2048x512.size (inbA c k)).emb x = (rowsA c).emb ((rectA k).emb x) := by
  have h := aOff_eq c k
  refine funext fun a => Fin.ext ?_
  show aOff c k a + 1 * (x a).val = (![2048 * (c.val % 2), 0] : Fin 2 → ℕ) a + 1 * ((![0, 512 * k.val] : Fin 2 → ℕ) a + 1 * (x a).val)
  rw [h]
  fin_cases a
  · show 2048 * (c.val % 2) + 1 * (x 0).val = 2048 * (c.val % 2) + 1 * (0 + 1 * (x 0).val); omega
  · show 512 * k.val + 1 * (x 1).val = 0 + 1 * (512 * k.val + 1 * (x 1).val); omega

/-- Storing block `k`, rounded, adds it. -/
theorem isAb_step (c : Dev nD) (k : Fin 4) (f : S2048x2048.Idx → Elt F .bf16) (h : isAb m c k.val f) :
    isAb m c (k.val + 1) (((Memref.whole cc0_scratch1).access (rectA k)).write (Elt F) f (roundA ((aSrc c k).view.read (Elt F) (m (lA c)))) Finset.univ) := by
  intro i hi
  by_cases hm : i ∈ (rectA k).set
  · obtain ⟨x, -, hx⟩ := Finset.mem_map.mp ((Rect.map_emb_univ (r := rectA k)).symm ▸ hm)
    subst hx
    refine (View.write_emb_of_mem (v := (Memref.whole cc0_scratch1).access (rectA k)) f _ (Finset.mem_univ x)).trans ?_
    show roundA ((aSrc c k).view.read (Elt F) (m (lA c))) x = A16 m c ((rectA k).emb x)
    unfold roundA
    rw [shapeCast_self]
    show FloatOps.truncf .bf16 bitsLt_bf16_f32 ((m (lA c) : S4096x2048.Idx → F .f32) ((Rect.unit (s := S4096x2048) (aOff c k) S2048x512.size (inbA c k)).emb x))
      = FloatOps.truncf .bf16 bitsLt_bf16_f32 ((m (lA c) : S4096x2048.Idx → F .f32) ((rowsA c).emb ((rectA k).emb x)))
    rw [aSrc_emb]
  · refine (View.write_of_not_mem (v := (Memref.whole cc0_scratch1).access (rectA k)) f _ _ (i := i) (by
      rw [View.setOn_univ, View.set_slice_whole]; exact hm)).trans (h i ?_)
    by_contra hlt
    refine hm (Rect.mem_set_unit.mpr fun a => ?_)
    fin_cases a
    · exact ⟨Nat.zero_le _, by show (i 0).val < 0 + 2048; have := (i 0).isLt; rw [Nat.zero_add]; exact this⟩
    · exact ⟨by show 512 * k.val ≤ (i 1).val; omega, by show (i 1).val < 512 * k.val + 512; omega⟩

variable (K : Dev nD × Option Own → ℕ) (c : Dev nD)

theorem wp_fetchA (Kt : PUnit → sProp 𝕄) (k : Fin 4) {n : P F} :
    iprop(Ctx m K ∗ fresh c (oA k) ∗ argA m c (qA k) ∗ free (lAf c) (aDst k).view.set)
      ⊢ iprop((pend c (oA k) -∗ wpc c Kt n) -∗ wpc c Kt (fetchA c k n)) := by
  iintro ⟨#HC, Hf, HB, Hd⟩ Hk
  ihave HB := (pointsTo_split_subset (Finset.subset_univ (aSrc c k).view.set)).1 $$ HB
  icases HB with ⟨HB, HB'⟩
  iapply (wp_local m K c Kt (src := aSrc c k) (dst := aDst k) (oA k) rfl rfl (S := (aDst k).view.set) (Pd := fun _ => True) (Qd := isAf m c k) (q := qA k) (fs := m (lA c))
    (Fr := (lA c ↦[Finset.univ \ (aSrc c k).view.set]{qA k} m (lA c)))
    (Finset.Subset.refl _) (fun f _ => View.read_write_univ (v := (aDst k).view) f _)
    (by
      show _ ⊢ iprop(argA m c (qA k) ∗ held (lAf c) (aDst k).view.set fullShare (isAf m c k))
      iintro ⟨⟨Hd, HB'⟩, HB⟩
      isplitl [HB HB']
      · iapply (pointsTo_split_subset (Finset.subset_univ (aSrc c k).view.set)).2
        isplitl [HB] <;> iassumption
      iexact Hd)) $$ [Hf HB HB' Hd]
  · isplitr; · iexact HC
    isplitl [Hf]; · iexact Hf
    isplitl [HB]; · iexact HB
    isplitl [HB']; · iexact HB'
    iexact Hd
  iexact Hk

theorem wp_awaitA (Kt : PUnit → sProp 𝕄) (k : Fin 4) {O : CellTallies nD τ sig Unit} (hO : Above 0 O) {n : P F} :
    iprop(Ctx m K ∗ pend c (oA k) ∗ Owes c O)
      ⊢ iprop(((Owes c O ∗ ended c (oA k) ∗ argA m c (qA k) ∗ held (lAf c) (aDst k).view.set fullShare (isAf m c k)) -∗ wpc c Kt n)
        -∗ wpc c Kt (.op (.waitDma2 (semA k) (aSrc c k) (aDst k) (View.wordExact_bits rfl) (View.wordExact_bits rfl)) fun _ => n)) :=
  wp_await m K c Kt (oA k) rfl rfl hO

theorem wp_takeA (Kt : PUnit → sProp 𝕄) (k : Fin 4) {O : CellTallies nD τ sig Unit} (hO : Above 0 O) {n : P F} :
    iprop(Ctx m K ∗ pend c (oA k) ∗ held (lAb c) Finset.univ fullShare (isAb m c k.val) ∗ Owes c O)
      ⊢ iprop(((Owes c O ∗ ended c (oA k) ∗ argA m c (qA k) ∗ free (lAf c) (aDst k).view.set ∗ held (lAb c) Finset.univ fullShare (isAb m c (k.val + 1))) -∗ wpc c Kt n)
        -∗ wpc c Kt (takeA c k n)) := by
  unfold takeA
  iintro ⟨#HC, Hp, HA, HO⟩ Hk
  iapply (wp_awaitA m K c Kt k hO) $$ [Hp HO]
  · isplitr; · iexact HC
    isplitl [Hp] <;> iassumption
  iintro ⟨HO, He, Ha, Hf⟩
  iapply (wp_load_held 𝒱₀ (c : Thread nD τ) none Set.univ (m := Memref.whole cc0_scratch0) (r := rectA k) ((aSrc c k).view.read (Elt F) (m (lA c))) (S := (aDst k).view.set) (P := isAf m c k)
    (Finset.Subset.refl _) (fun f hf => hf)) $$ Hf
  iintro Hf
  iapply (wp_load_drop 𝒱₀ (c : Thread nD τ) none Set.univ (m := Memref.whole cc0_scratch1) (r := rectA k) (S := Finset.univ) (P := isAb m c k.val) (Finset.subset_univ _)) $$ HA
  iintro HA
  iapply (wp_store_held 𝒱₀ (c : Thread nD τ) none Set.univ (m := Memref.whole cc0_scratch1) (r := rectA k) (w := roundA ((aSrc c k).view.read (Elt F) (m (lA c)))) (S := Finset.univ)
    (P := isAb m c k.val) (Q := isAb m c (k.val + 1)) (Finset.subset_univ _) (isAb_step m c k)) $$ HA
  iintro HA
  iapply Hk
  isplitl [HO]; · iexact HO
  isplitl [He]; · iexact He
  isplitl [Ha]; · iexact Ha
  isplitl [Hf]; · iapply (held_forget (P := isAf m c k)); iexact Hf
  iexact HA

/-! ## The handshake -/

theorem dev1_eq : ∀ d : Dev nD, (⟨k0_dev1 d, k0_dev1_lt d⟩ : Dev nD) = xp d := by decide +kernel
theorem dev2_eq : ∀ d : Dev nD, (⟨k0_dev2 d, k0_dev2_lt d⟩ : Dev nD) = yp d := by decide +kernel

theorem pay_bar_x : pay m (xp c) none false = iprop(recvFree c 0 ∗ recvFree c 1) := by
  show iprop(recvFree (xp (xp c)) 0 ∗ recvFree (xp (xp c)) 1) = _
  rw [xp_xp]
theorem pay_bar_y : pay m (yp c) none true = bigSep Finset.univ fun j : Fin 17 => outFree c (yp c) j := by
  show (bigSep Finset.univ fun j : Fin 17 => outFree (yp (yp c)) (yp c) j) = _
  rw [yp_yp]

/-- A signal to a neighbour's barrier. -/
theorem wp_tell (Kt : PUnit → sProp 𝕄) {n d : Dev nD} (hn : n = d) (b : Bool) {O₀' : CellTallies nD τ sig Unit} (O : CellTallies nD τ sig Unit) (hO : O₀' = O + tallyAt (barCell d) () 1) {k : P F} :
    iprop(Ctx m K ∗ dutyTok ER (barCell d) 0 b ∗ pay m d none b ∗ Owes c O₀')
      ⊢ iprop((Owes c O -∗ wpc c Kt k) -∗ wpc c Kt (.op (.semSignal (Dev.tc n) barS.sem (BitVec.toInt 1#32)) fun _ => k)) := by
  subst hn
  unfold Owes
  iintro ⟨#HC, Ht, Hp, %W, HO⟩ Hk
  iapply (Rounds.wp_signal 𝒱₀ ER (Rd m) (c : Thread nD τ) none (dst := (n : Thread nD τ)) (sem := barS.sem) (r := 0) (d := b) (κ := K (n, none))
      (by rw [duties_bar]; cases b <;> decide) ((amount_bar m n b).trans (by decide)) () O hO) $$ [Ht Hp HO]
  · isplitr; · iapply (ctx_inv m K (n, none)); iexact HC
    isplitl [HO]; · iexact HO
    isplitl [Ht]; · iexact Ht
    isplitl [Hp]; · rw [payload_bar]; iexact Hp
    iapply (ctx_reached m K (n, none)); iexact HC
  iintro HO
  iapply Hk
  iexists W; iexact HO

/-- The wait on the device's own barrier. -/
theorem wp_told (Kt : PUnit → sProp 𝕄) {O : CellTallies nD τ sig Unit} (hO : Above 1 O) {k : P F} :
    iprop(Ctx m K ∗ cred (tallyAt (barCell c) () 2) ∗ atPos ER (barCell c) 0 ∅ 0 ∗ Owes c O)
      ⊢ iprop(((Owes c O ∗ atPos ER (barCell c) 1 ∅ 0 ∗ pay m c none false ∗ pay m c none true) -∗ wpc c Kt k)
        -∗ wpc c Kt (.op (.semWait barS.sem (BitVec.toInt 2#32)) fun _ => k)) := by
  unfold Owes
  iintro ⟨#HC, Hc, Hat, %W, HO⟩ Hk
  iapply (Rounds.wp_wait_rest_token 𝒱₀ ER (Rd m) (c : Thread nD τ) none (κ := K (c, none)) (sm := .reg barS.sem) (k' := 2)
      (wpE_semWait_eq 𝒱₀ (c : Thread nD τ) none Set.univ) (Set.mem_univ _) () (O := O) (W := W) (R := 0) (m := 0) (T := ∅)
      (by rw [Nat.zero_add]; exact (expect_bar m c).symm)) $$ [Hc HO Hat]
  · isplitr; · iapply (ctx_inv m K (c, none)); iexact HC
    isplitl [Hc]; · iexact Hc
    isplitl [HO]; · iexact HO
    isplitr
    · iapply (mayWait c (.reg barS.sem) O (le_of_eq (lv_bar c ())) hO); iapply (ctx_lev m K); iexact HC
    iexact Hat
  iintro ⟨HO, Hat, -, Hp⟩
  ihave Hp := (Entails.of_eq (rest_bar m c)) $$ Hp
  icases Hp with ⟨H1, H2⟩
  iapply Hk
  isplitl [HO]; · iexists _; iexact HO
  isplitl [Hat]; · iexact Hat
  isplitl [H1] <;> iassumption

theorem wp_handshake (Kt : PUnit → sProp 𝕄) {k : P F} :
    iprop(Ctx m K ∗ dutyTok ER (barCell (xp c)) 0 false ∗ dutyTok ER (barCell (yp c)) 0 true ∗ cred (tallyAt (barCell c) () 2) ∗ atPos ER (barCell c) 0 ∅ 0
        ∗ (recvFree c 0 ∗ recvFree c 1) ∗ (bigSep Finset.univ fun j : Fin 17 => outFree c (yp c) j) ∗ Owes c (O₀ c))
      ⊢ iprop(((Owes c (due c 0 0) ∗ atPos ER (barCell c) 1 ∅ 0 ∗ (recvFree (xp c) 0 ∗ recvFree (xp c) 1) ∗ bigSep Finset.univ fun j : Fin 17 => outFree (yp c) c j) -∗ wpc c Kt k)
        -∗ wpc c Kt (handshake c k)) := by
  unfold handshake
  iintro ⟨#HC, Htx, Hty, Hc, Hat, Hr, Ho, HO⟩ Hk
  iapply (wp_tell m K c Kt (dev1_eq c) false (O₁ c) rfl) $$ [Htx Hr HO]
  · isplitr; · iexact HC
    isplitl [Htx]; · iexact Htx
    isplitl [Hr]; · iapply (Entails.of_eq (pay_bar_x m c).symm); iexact Hr
    iexact HO
  iintro HO
  iapply (wp_tell m K c Kt (dev2_eq c) true (due c 0 0) rfl) $$ [Hty Ho HO]
  · isplitr; · iexact HC
    isplitl [Hty]; · iexact Hty
    isplitl [Ho]; · iapply (Entails.of_eq (pay_bar_y m c).symm); iexact Ho
    iexact HO
  iintro HO
  iapply (wp_told m K c Kt (Above.due c 0 0 (by omega) (by omega))) $$ [Hc Hat HO]
  · isplitr; · iexact HC
    isplitl [Hc]; · iexact Hc
    isplitl [Hat]; · iexact Hat
    iexact HO
  iintro ⟨HO, Hat, H1, H2⟩
  iapply Hk
  isplitl [HO]; · iexact HO
  isplitl [Hat]; · iexact Hat
  isplitl [H1]; · iapply (Entails.of_eq (show pay m c none false = iprop(recvFree (xp c) 0 ∗ recvFree (xp c) 1) from rfl)); iexact H1
  iapply (Entails.of_eq (show pay m c none true = (bigSep Finset.univ fun j : Fin 17 => outFree (yp c) c j) from rfl)); iexact H2

end Cert.KernelIdeal.Proto

end
-- ==== Proof.Ideal.Loop.lean ====
/- The iterations. What a device holds before iteration `j` is stated once, for a symbolic `j`; an iteration goes from it at
   `j` to it at `j + 1`, and the iterations follow by induction. -/
module

public import proofs.«01_k».proof.Proof.Family
public import proofs.«01_k».proof.Proof.Ideal.Enter

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

local notation "𝕄" => MT nD τ sig Unit (Elt F) ℕ UU ℕ

variable (m : (ℓ : Loc nD τ sig) → Buf (Elt F) ℓ) (K : Dev nD × Option Own → ℕ) (c : Dev nD)

theorem slot2_add (n : ℕ) : slot2 (n + 2) = slot2 n := by unfold slot2; rw [Nat.add_mod_right]
theorem slot4_add (n : ℕ) : slot4 (n + 4) = slot4 n := by unfold slot4; rw [Nat.add_mod_right]
theorem qB_add (n : ℕ) : qB (n + 2) = qB n := by unfold qB; rw [Nat.add_mod_right]

/-! ## The transfers, by family -/

def famB (p q : ℕ) : sProp 𝕄 := family (fun j => fresh c (oB j)) (fun j => pend c (oB j)) (fun j => ended c (oB j)) p q
def famXS (p q : ℕ) : sProp 𝕄 :=
  family (fun j => iprop(fresh c (oXS j) ∗ dutyTok ER (cell (xp c) (oXR j)) 0 false)) (fun j => pend c (oXS j)) (fun j => ended c (oXS j)) p q
def famXR (q : ℕ) : sProp 𝕄 := family (fun _ => iprop(emp)) (fun j => pend c (oXR j)) (fun j => ended c (oXR j)) 17 q
def famY (p q : ℕ) : sProp 𝕄 :=
  family (fun j => iprop((fresh c (oYS j) ∗ dutyTok ER (cell (yp c) (oYR j)) 0 false ∗ outFree (yp c) c j) ∗ fresh c (oL j) ∗ outFree c c j))
    (fun j => iprop(pend c (oYS j) ∗ pend c (oL j))) (fun j => iprop(ended c (oYS j) ∗ ended c (oL j) ∗ outHeld m c c j)) p q
def famYR (q : ℕ) : sProp 𝕄 := family (fun _ => iprop(emp)) (fun j => pend c (oYR j)) (fun j => iprop(ended c (oYR j) ∗ outHeld m c (yp c) j)) 17 q

theorem famB_start (p q : ℕ) (hp : p < 17) (hq : q ≤ p) : (famB c p q : sProp 𝕄) ⊢ iprop(fresh c (oB ⟨p, hp⟩) ∗ (pend c (oB ⟨p, hp⟩) -∗ famB c (p + 1) q)) :=
  family_start _ _ _ p q hp hq
theorem famB_end (p q : ℕ) (hq : q < 17) (hp : q < p) : (famB c p q : sProp 𝕄) ⊢ iprop(pend c (oB ⟨q, hq⟩) ∗ (ended c (oB ⟨q, hq⟩) -∗ famB c p (q + 1))) :=
  family_end _ _ _ p q hq hp
theorem famXS_start (p q : ℕ) (hp : p < 17) (hq : q ≤ p) : (famXS c p q : sProp 𝕄)
    ⊢ iprop((fresh c (oXS ⟨p, hp⟩) ∗ dutyTok ER (cell (xp c) (oXR ⟨p, hp⟩)) 0 false) ∗ (pend c (oXS ⟨p, hp⟩) -∗ famXS c (p + 1) q)) :=
  family_start _ _ _ p q hp hq
theorem famXS_end (p q : ℕ) (hq : q < 17) (hp : q < p) : (famXS c p q : sProp 𝕄) ⊢ iprop(pend c (oXS ⟨q, hq⟩) ∗ (ended c (oXS ⟨q, hq⟩) -∗ famXS c p (q + 1))) :=
  family_end _ _ _ p q hq hp
theorem famXR_end (q : ℕ) (hq : q < 17) : (famXR c q : sProp 𝕄) ⊢ iprop(pend c (oXR ⟨q, hq⟩) ∗ (ended c (oXR ⟨q, hq⟩) -∗ famXR c (q + 1))) :=
  family_end _ _ _ 17 q hq hq
theorem famY_start (p q : ℕ) (hp : p < 17) (hq : q ≤ p) : famY m c p q
    ⊢ iprop(((fresh c (oYS ⟨p, hp⟩) ∗ dutyTok ER (cell (yp c) (oYR ⟨p, hp⟩)) 0 false ∗ outFree (yp c) c ⟨p, hp⟩) ∗ fresh c (oL ⟨p, hp⟩) ∗ outFree c c ⟨p, hp⟩)
      ∗ ((pend c (oYS ⟨p, hp⟩) ∗ pend c (oL ⟨p, hp⟩)) -∗ famY m c (p + 1) q)) :=
  family_start _ _ _ p q hp hq
theorem famY_end (p q : ℕ) (hq : q < 17) (hp : q < p) : famY m c p q
    ⊢ iprop((pend c (oYS ⟨q, hq⟩) ∗ pend c (oL ⟨q, hq⟩)) ∗ ((ended c (oYS ⟨q, hq⟩) ∗ ended c (oL ⟨q, hq⟩) ∗ outHeld m c c ⟨q, hq⟩) -∗ famY m c p (q + 1))) :=
  family_end _ _ _ p q hq hp
theorem famYR_end (q : ℕ) (hq : q < 17) : famYR m c q
    ⊢ iprop(pend c (oYR ⟨q, hq⟩) ∗ ((ended c (oYR ⟨q, hq⟩) ∗ outHeld m c (yp c) ⟨q, hq⟩) -∗ famYR m c (q + 1))) :=
  family_end _ _ _ 17 q hq hq
theorem famB_past {p q : ℕ} (h : 17 ≤ p) : (famB c (p + 1) q : sProp 𝕄) = famB c p q := family_past _ _ _ h

/-! ## The slots, by chunk -/

/-- The slot for chunk `i`'s product, before it: still being sent from two chunks before, or free. -/
def sl (i : ℕ) : sProp 𝕄 := if h : 2 ≤ i ∧ i < 19 then keep m c ⟨i - 2, by omega⟩ else free (lSend c) (slot2 i)
/-- The slot for chunk `i`'s sum, before it. -/
def rl (i : ℕ) : sProp 𝕄 := if h : 2 ≤ i ∧ i < 19 then rRest c ⟨i - 2, by omega⟩ else free (lR c) (slot2 i)
/-- The slot for chunk `i` of B with the share its fetch reads under; kept past the last chunk. -/
def bl (i : ℕ) : sProp 𝕄 := iprop(free (lBd c) (slot2 i) ∗ argB m c (qB i))
def bleft (i : ℕ) : sProp 𝕄 := if 17 ≤ i then bl m c i else iprop(emp)
/-- The device's own receive slots in hand before iteration `j`, and its neighbour's. -/
def recvs (j : ℕ) : sProp 𝕄 :=
  iprop(recvFree c (j + 2) ∗ (if j = 0 then recvFree c 3 else emp) ∗ (if 16 ≤ j then recvFree c 17 else emp) ∗ (if 17 ≤ j then recvFree c 18 else emp))
def peers (j : ℕ) : sProp 𝕄 := iprop((if j < 17 then recvFree (xp c) j else emp) ∗ (if j = 0 then recvFree (xp c) 1 else emp))

theorem sl_keep (n : ℕ) (h : n < 17) : sl m c (n + 2) = keep m c ⟨n, h⟩ := dif_pos ⟨by omega, by omega⟩
theorem sl_free (n : ℕ) (h : ¬ (2 ≤ n ∧ n < 19)) : sl m c n = free (lSend c) (slot2 n) := dif_neg h
omit [FloatOps F] in
theorem rl_keep (n : ℕ) (h : n < 17) : (rl c (n + 2) : sProp 𝕄) = rRest c ⟨n, h⟩ := dif_pos ⟨by omega, by omega⟩
omit [FloatOps F] in
theorem rl_free (n : ℕ) (h : ¬ (2 ≤ n ∧ n < 19)) : (rl c n : sProp 𝕄) = free (lR c) (slot2 n) := dif_neg h

omit [FloatOps F] in
theorem slot4_back (d : Dev nD) (n : ℕ) : (recvFree d (n + 4) : sProp 𝕄) = recvFree d n := by unfold recvFree; rw [slot4_add]

omit [FloatOps F] in
/-- An iteration gives away one receive slot while there are chunks to come, and gets the last sum's back. -/
theorem recvs_step (j : ℕ) (hj : j < 17) : (recvs c j : sProp 𝕄)
    ⊢ iprop((if j ≤ 14 then recvFree c (j + 2) else emp) ∗ ((if 1 ≤ j then recvFree c (j - 1) else emp) -∗ recvs c (j + 1))) := by
  unfold recvs
  rcases j with _ | n
  · rw [if_pos rfl, if_neg (by omega), if_neg (by omega), if_pos (by omega), if_neg (by omega), if_neg (by omega), if_neg (by omega), if_neg (by omega)]
    iintro ⟨H2, H3, -, -⟩
    isplitl [H2]; · iexact H2
    iintro -
    isplitl [H3]; · iexact H3
    isplitr; · iempintro
    isplitr; · iempintro
    iempintro
  · have e : (recvFree c (n + 1 + 1 + 2) : sProp 𝕄) = recvFree c (n + 1 - 1) := slot4_back c n
    rw [e, if_neg (by omega), if_neg (by omega : ¬ n + 1 + 1 = 0), if_pos (by omega : 1 ≤ n + 1), if_neg (by omega : ¬ 17 ≤ n + 1)]
    rcases Nat.lt_or_ge (n + 1) 15 with h | h
    · rw [if_pos (by omega : n + 1 ≤ 14), if_neg (by omega : ¬ 16 ≤ n + 1), if_neg (by omega : ¬ 16 ≤ n + 1 + 1), if_neg (by omega : ¬ 17 ≤ n + 1 + 1)]
      iintro ⟨H2, -, -, -⟩
      isplitl [H2]; · iexact H2
      iintro H
      isplitl [H]; · iexact H
      isplitr; · iempintro
      isplitr; · iempintro
      iempintro
    · rcases (by omega : n = 14 ∨ n = 15) with rfl | rfl
      · rw [if_neg (by decide : ¬ 14 + 1 ≤ 14), if_neg (by decide : ¬ 16 ≤ 14 + 1), if_pos (by decide : 16 ≤ 14 + 1 + 1), if_neg (by decide : ¬ 17 ≤ 14 + 1 + 1)]
        iintro ⟨H2, -, -, -⟩
        isplitr; · iempintro
        iintro H
        isplitl [H]; · iexact H
        isplitr; · iempintro
        isplitl [H2]; · iexact H2
        iempintro
      · rw [if_neg (by decide : ¬ 15 + 1 ≤ 14), if_pos (by decide : 16 ≤ 15 + 1), if_pos (by decide : 16 ≤ 15 + 1 + 1), if_pos (by decide : 17 ≤ 15 + 1 + 1)]
        iintro ⟨H2, -, H3, -⟩
        isplitr; · iempintro
        iintro H
        isplitl [H]; · iexact H
        isplitr; · iempintro
        isplitl [H3]; · iexact H3
        iexact H2

omit [FloatOps F] in
/-- An iteration uses the neighbour's slot for its chunk, and receives the one for the chunk after the next. -/
theorem peers_step (j : ℕ) (hj : j < 17) : (peers c j : sProp 𝕄)
    ⊢ iprop(recvFree (xp c) j ∗ ((if 1 ≤ j ∧ j ≤ 15 then recvFree (xp c) (j + 1) else emp) -∗ peers c (j + 1))) := by
  unfold peers
  rw [if_pos hj, if_neg (by omega : ¬ j + 1 = 0)]
  by_cases h0 : j = 0
  · subst h0
    rw [if_pos rfl, if_pos (by decide : 0 + 1 < 17), if_neg (by decide : ¬ (1 ≤ 0 ∧ 0 ≤ 15))]
    iintro ⟨H0, H1⟩
    isplitl [H0]; · iexact H0
    iintro -
    isplitl [H1]; · iexact H1
    iempintro
  · rw [if_neg h0]
    by_cases h1 : j ≤ 15
    · rw [if_pos (by omega : 1 ≤ j ∧ j ≤ 15), if_pos (by omega : j + 1 < 17)]
      iintro ⟨H0, -⟩
      isplitl [H0]; · iexact H0
      iintro H
      isplitl [H]; · iexact H
      iempintro
    · rw [if_neg (by omega : ¬ (1 ≤ j ∧ j ≤ 15)), if_neg (by omega : ¬ j + 1 < 17)]
      iintro ⟨H0, -⟩
      isplitl [H0]; · iexact H0
      iintro -
      isplitr; · iempintro
      iempintro

/-! ## The parts of an iteration -/

theorem above0 (j f : ℕ) : Above 0 (due c j f) := Above.due c j f (by omega) (by omega)

/-- The next chunk of B is fetched, if there is one. -/
theorem wp_fetchNext (Kt : PUnit → sProp 𝕄) (j : ℕ) {k : P F} :
    iprop(Ctx m K ∗ famB c (j + 1) j ∗ bl m c (j + 1))
      ⊢ iprop(((famB c (j + 2) j ∗ bleft m c (j + 1)) -∗ wpc c Kt k) -∗ wpc c Kt (if h : j + 1 < 17 then fetchB ⟨j + 1, h⟩ k else k)) := by
  unfold bleft
  by_cases h : j + 1 < 17
  · rw [dif_pos h, if_neg (by omega)]
    unfold bl
    iintro ⟨#HC, HF, Hb, Ha⟩ Hk
    ihave HF := (famB_start c (j + 1) j h (Nat.le_succ j)) $$ HF
    icases HF with ⟨Hf, HF⟩
    iapply (wp_fetchB m K c Kt ⟨j + 1, h⟩) $$ [Hf Hb Ha]
    · isplitr; · iexact HC
      isplitl [Hf]; · iexact Hf
      isplitl [Ha] <;> iassumption
    iintro Hp
    iapply Hk
    isplitl [HF Hp]; · iapply HF; iexact Hp
    iempintro
  · rw [dif_neg h, if_pos (by omega), famB_past c (p := j + 1) (by omega)]
    iintro ⟨-, HF, Hb⟩ Hk
    iapply Hk
    isplitl [HF] <;> iassumption

/-- The slot for product `i` is waited free. -/
theorem wp_freeSend (Kt : PUnit → sProp 𝕄) (p i : ℕ) (hi : i < 19) (hp : i - 2 < p ∨ i < 2) {O : CellTallies nD τ sig Unit} (hO : Above 0 O) {k : P F} :
    iprop(Ctx m K ∗ famXS c p (i - 2) ∗ sl m c i ∗ Owes c O)
      ⊢ iprop(((famXS c p (i - 1) ∗ free (lSend c) (slot2 i) ∗ Owes c O) -∗ wpc c Kt k) -∗ wpc c Kt (if h : 2 ≤ i then awaitXS ⟨i - 2, by omega⟩ k else k)) := by
  by_cases h : 2 ≤ i
  · obtain ⟨n, rfl⟩ : ∃ n, i = n + 2 := ⟨i - 2, by omega⟩
    have hn : n < 17 := by omega
    rw [dif_pos h, sl_keep m c n (by omega), slot2_add]
    simp only [Nat.add_sub_cancel, show n + 2 - 1 = n + 1 from rfl]
    iintro ⟨#HC, HF, Hs, HO⟩ Hk
    ihave HF := (famXS_end c p n (by omega) (by omega)) $$ HF
    icases HF with ⟨Hf, HF⟩
    iapply (wp_awaitXS m K c Kt ⟨n, hn⟩ hO) $$ [Hf Hs HO]
    · isplitr; · iexact HC
      isplitl [Hf]; · iexact Hf
      isplitl [Hs] <;> iassumption
    iintro ⟨HO, He, Hs⟩
    iapply Hk
    isplitl [HF He]; · iapply HF; iexact He
    isplitl [Hs]; · iexact Hs
    iexact HO
  · rw [dif_neg h, sl_free m c i (by omega), show i - 2 = i - 1 by omega]
    iintro ⟨-, HF, Hs, HO⟩ Hk
    iapply Hk
    isplitl [HF]; · iexact HF
    isplitl [Hs] <;> iassumption

/-- The slot for sum `i` is waited free. -/
theorem wp_freeR (Kt : PUnit → sProp 𝕄) (p i : ℕ) (hi : i < 19) (hp : i - 2 < p ∨ i < 2) {O : CellTallies nD τ sig Unit} (hO : Above 0 O) {k : P F} :
    iprop(Ctx m K ∗ famY m c p (i - 2) ∗ rl c i ∗ Owes c O)
      ⊢ iprop(((famY m c p (i - 1) ∗ free (lR c) (slot2 i) ∗ Owes c O) -∗ wpc c Kt k)
        -∗ wpc c Kt (if h : 2 ≤ i then awaitYS c ⟨i - 2, by omega⟩ (awaitL c ⟨i - 2, by omega⟩ k) else k)) := by
  by_cases h : 2 ≤ i
  · obtain ⟨n, rfl⟩ : ∃ n, i = n + 2 := ⟨i - 2, by omega⟩
    have hn : n < 17 := by omega
    rw [dif_pos h, rl_keep c n (by omega), slot2_add]
    simp only [Nat.add_sub_cancel, show n + 2 - 1 = n + 1 from rfl]
    iintro ⟨#HC, HF, Hs, HO⟩ Hk
    ihave HF := (famY_end m c p n (by omega) (by omega)) $$ HF
    icases HF with ⟨⟨Hy, Hl⟩, HF⟩
    iapply (wp_awaitYS m K c Kt c ⟨n, hn⟩ hO) $$ [Hy HO]
    · isplitr; · iexact HC
      isplitl [Hy] <;> iassumption
    iintro ⟨HO, Hey, Hr⟩
    iapply (wp_awaitL m K c Kt c ⟨n, hn⟩ hO) $$ [Hl HO]
    · isplitr; · iexact HC
      isplitl [Hl] <;> iassumption
    iintro ⟨HO, Hel, Ho, Hr'⟩
    iapply Hk
    isplitl [HF Hey Hel Ho]
    · iapply HF
      isplitl [Hey]; · iexact Hey
      isplitl [Hel] <;> iassumption
    isplitl [Hs Hr Hr']
    · iapply (r_back m c ⟨n, hn⟩)
      isplitl [Hr']; · iexact Hr'
      isplitl [Hr] <;> iassumption
    iexact HO
  · rw [dif_neg h, rl_free c i (by omega), show i - 2 = i - 1 by omega]
    iintro ⟨-, HF, Hs, HO⟩ Hk
    iapply Hk
    isplitl [HF]; · iexact HF
    isplitl [Hs] <;> iassumption

/-- Chunk `i` is finished. -/
theorem wp_finish (Kt : PUnit → sProp 𝕄) (i : ℕ) (hi : i < 17) (n : ℕ) (hn : i < n ∨ 17 ≤ n) {k : P F} :
    iprop(Ctx m K ∗ famXR c i ∗ famY m c i (i - 2) ∗ rl c i ∗ keep m c ⟨i, hi⟩ ∗ Owes c (due c n i))
      ⊢ iprop(((famXR c (i + 1) ∗ famY m c (i + 1) (i - 1) ∗ rl c (i + 2) ∗ keep m c ⟨i, hi⟩ ∗ recvFree c i
          ∗ (if i ≤ 14 then recvFree (xp c) (i + 2) else emp) ∗ Owes c (due c n (i + 1))) -∗ wpc c Kt k)
        -∗ wpc c Kt (finish c i hi k)) := by
  unfold finish
  iintro ⟨#HC, HX, HY, Hr, Hk, HO⟩ Hw
  iapply (wp_freeR m K c Kt i i (by omega) (by omega) (above0 c n i)) $$ [HY Hr HO]
  · isplitr; · iexact HC
    isplitl [HY]; · iexact HY
    isplitl [Hr] <;> iassumption
  iintro ⟨HY, Hr, HO⟩
  ihave HX := (famXR_end c i hi) $$ HX
  icases HX with ⟨Hp, HX⟩
  iapply (wp_awaitXR m K c Kt ⟨i, hi⟩ (Above.due c n i (by show 2 + i < 2 + n ∨ 17 ≤ n; omega) (by show 2 + i < 40; omega))) $$ [Hp HO]
  · isplitr; · iexact HC
    isplitl [Hp] <;> iassumption
  iintro ⟨HO, He, Hv, Hpeer⟩
  iapply (wp_addUp m c Kt ⟨i, hi⟩) $$ [Hk Hv Hr]
  · isplitl [Hk]; · iexact Hk
    isplitl [Hv] <;> iassumption
  iintro ⟨Hk, Hv, Hr⟩
  ihave Hr := (held_split (P := isR m c ⟨i, hi⟩) (by rw [r_set]; exact rect2_sub ⟨i, hi⟩ : (rSlot ⟨i, hi⟩).view.set ⊆ slot2 i)) $$ Hr
  icases Hr with ⟨Hl, Hr, Hs⟩
  ihave HY := (famY_start m c i (i - 1) hi (by omega)) $$ HY
  icases HY with ⟨⟨⟨HfY, HtY, HoY⟩, HfL, HoL⟩, HY⟩
  iapply (wp_putHere m K c Kt ⟨i, hi⟩) $$ [HfL Hl HoL]
  · isplitr; · iexact HC
    isplitl [HfL]; · iexact HfL
    isplitl [Hl] <;> iassumption
  iintro HpL
  iapply (wp_putAcross m K c Kt ⟨i, hi⟩ n) $$ [HfY HtY Hr HoY HO]
  · isplitr; · iexact HC
    isplitl [HfY]; · iexact HfY
    isplitl [HtY]; · iexact HtY
    isplitl [Hr]; · iexact Hr
    isplitl [HoY] <;> iassumption
  iintro ⟨HpY, HO⟩
  iapply Hw
  isplitl [HX He]; · iapply HX; iexact He
  isplitl [HY HpY HpL]
  · iapply HY
    isplitl [HpY] <;> iassumption
  isplitl [Hs]; · rw [rl_keep c i hi]; iexact Hs
  isplitl [Hk]; · iexact Hk
  isplitl [Hv]; · iexact Hv
  isplitl [Hpeer]; · iexact Hpeer
  iexact HO

/-- The last part of iteration `j`: the chunk before is finished, if there is one. -/
theorem wp_finishPrev (Kt : PUnit → sProp 𝕄) (j : ℕ) (hj : j < 17) {k : P F} :
    iprop(Ctx m K ∗ famXR c (j - 1) ∗ famY m c (j - 1) (j - 1 - 2) ∗ rl c (j - 1) ∗ rl c (j - 1 + 1) ∗ sl m c (j + 1) ∗ Owes c (due c (j + 1) (j - 1)))
      ⊢ iprop(((famXR c j ∗ famY m c j (j - 2) ∗ rl c j ∗ rl c (j + 1) ∗ sl m c (j + 1) ∗ (if 1 ≤ j then recvFree c (j - 1) else emp)
          ∗ (if 1 ≤ j ∧ j ≤ 15 then recvFree (xp c) (j + 1) else emp) ∗ Owes c (due c (j + 1) j)) -∗ wpc c Kt k)
        -∗ wpc c Kt (if h : 1 ≤ j then finish c (j - 1) (by omega) k else k)) := by
  rcases j with _ | n
  · rw [dif_neg (by omega), if_neg (by omega), if_neg (by omega)]
    iintro ⟨-, HX, HY, H1, H2, Hs, HO⟩ Hk
    iapply Hk
    isplitl [HX]; · iexact HX
    isplitl [HY]; · iexact HY
    isplitl [H1]; · iexact H1
    isplitl [H2]; · iexact H2
    isplitl [Hs]; · iexact Hs
    isplitr; · iempintro
    isplitr; · iempintro
    iexact HO
  · have e : (if 1 ≤ n + 1 ∧ n + 1 ≤ 15 then (recvFree (xp c) (n + 1 + 1) : sProp 𝕄) else iprop(emp)) = if n ≤ 14 then recvFree (xp c) (n + 2) else iprop(emp) := by
      by_cases h : n ≤ 14
      · rw [if_pos h, if_pos (by omega)]
      · rw [if_neg h, if_neg (by omega)]
    rw [dif_pos (by omega), if_pos (by omega : 1 ≤ n + 1), e, sl_keep m c n (by omega)]
    show iprop(Ctx m K ∗ famXR c n ∗ famY m c n (n - 2) ∗ rl c n ∗ rl c (n + 1) ∗ keep m c ⟨n, _⟩ ∗ Owes c (due c (n + 1 + 1) n)) ⊢ _
    iintro ⟨#HC, HX, HY, H1, H2, Hs, HO⟩ Hk
    iapply (wp_finish m K c Kt n (by omega) (n + 1 + 1) (by omega)) $$ [HX HY H1 Hs HO]
    · isplitr; · iexact HC
      isplitl [HX]; · iexact HX
      isplitl [HY]; · iexact HY
      isplitl [H1]; · iexact H1
      isplitl [Hs] <;> iassumption
    iintro ⟨HX, HY, H1, Hs, Hv, Hp, HO⟩
    iapply Hk
    isplitl [HX]; · iexact HX
    isplitl [HY]; · iexact HY
    isplitl [H2]; · iexact H2
    isplitl [H1]; · iexact H1
    isplitl [Hs]; · iexact Hs
    isplitl [Hv]; · iexact Hv
    isplitl [Hp]; · iexact Hp
    iexact HO

/-! ## The iterations -/

/-- What a device holds before iteration `j`. -/
def Inv (j : ℕ) : sProp 𝕄 :=
  iprop((famB c (j + 1) j ∗ bl m c (j + 1) ∗ bleft m c j) ∗ (famXS c j (j - 2) ∗ sl m c j ∗ sl m c (j + 1))
    ∗ (famXR c (j - 1) ∗ famY m c (j - 1) (j - 1 - 2) ∗ rl c (j - 1) ∗ rl c (j - 1 + 1)) ∗ (recvs c j ∗ peers c j)
    ∗ held (lAb c) Finset.univ fullShare (fun f => f = A16 m c) ∗ Owes c (due c j (j - 1)))

theorem wp_iter (Kt : PUnit → sProp 𝕄) (j : ℕ) (hj : j < 17) {k : P F} :
    iprop(Ctx m K ∗ Inv m c j) ⊢ iprop((Inv m c (j + 1) -∗ wpc c Kt k) -∗ wpc c Kt (iter c j hj k)) := by
  unfold iter Inv
  rw [show bleft m c j = iprop(emp) from if_neg (by omega), show j + 1 - 1 = j from rfl, show j + 1 - 2 = j - 1 from rfl, show j + 1 + 1 = j + 2 from rfl]
  iintro ⟨#HC, ⟨HB, Hb, -⟩, ⟨HXS, Hs0, Hs1⟩, ⟨HX, HY, Hr0, Hr1⟩, ⟨Hv, Hp⟩, HA, HO⟩ Hk
  iapply (wp_fetchNext m K c Kt j) $$ [HB Hb]
  · isplitr; · iexact HC
    isplitl [HB] <;> iassumption
  iintro ⟨HB, Hb⟩
  ihave HB := (famB_end c (j + 2) j hj (by omega)) $$ HB
  icases HB with ⟨Hq, HB⟩
  iapply (wp_awaitB m K c Kt ⟨j, hj⟩ (above0 c j (j - 1))) $$ [Hq HO]
  · isplitr; · iexact HC
    isplitl [Hq] <;> iassumption
  iintro ⟨HO, He, Ha, Hc⟩
  ispecialize HB $$ He
  iapply (wp_freeSend m K c Kt j j (by omega) (by omega) (above0 c j (j - 1))) $$ [HXS Hs0 HO]
  · isplitr; · iexact HC
    isplitl [HXS]; · iexact HXS
    isplitl [Hs0] <;> iassumption
  iintro ⟨HXS, Hs0, HO⟩
  iapply (wp_product m c Kt ⟨j, hj⟩) $$ [HA Hc Hs0]
  · isplitl [HA]; · iexact HA
    isplitl [Hc] <;> iassumption
  iintro ⟨HA, Hc, Hs0⟩
  ihave HXS := (famXS_start c j (j - 1) hj (by omega)) $$ HXS
  icases HXS with ⟨⟨Hf, Ht⟩, HXS⟩
  ihave Hv := (recvs_step c j hj) $$ Hv
  icases Hv with ⟨Hg, Hv⟩
  ihave Hp := (peers_step c j hj) $$ Hp
  icases Hp with ⟨Hn, Hp⟩
  iapply (wp_sendX m K c Kt ⟨j, hj⟩ (j - 1)) $$ [Hf Ht Hs0 Hn Hg HO]
  · isplitr; · iexact HC
    isplitl [Hf]; · iexact Hf
    isplitl [Ht]; · iexact Ht
    isplitl [Hs0]; · iexact Hs0
    isplitl [Hn]; · iexact Hn
    isplitl [Hg] <;> iassumption
  iintro ⟨Hq, HO, Hs0⟩
  ispecialize HXS $$ Hq
  iapply (wp_finishPrev m K c Kt j hj) $$ [HX HY Hr0 Hr1 Hs1 HO]
  · isplitr; · iexact HC
    isplitl [HX]; · iexact HX
    isplitl [HY]; · iexact HY
    isplitl [Hr0]; · iexact Hr0
    isplitl [Hr1]; · iexact Hr1
    isplitl [Hs1] <;> iassumption
  iintro ⟨HX, HY, Hr0, Hr1, Hs1, Hw, Hq, HO⟩
  ispecialize Hv $$ Hw
  ispecialize Hp $$ Hq
  iapply Hk
  isplitl [HB Hb Hc Ha]
  · isplitl [HB]; · iexact HB
    isplitl [Hc Ha]
    · unfold bl
      rw [slot2_add, qB_add]
      isplitl [Hc] <;> iassumption
    iexact Hb
  isplitl [HXS Hs0 Hs1]
  · isplitl [HXS]; · iexact HXS
    isplitl [Hs1]; · iexact Hs1
    rw [sl_keep m c j hj]
    iexact Hs0
  isplitl [HX HY Hr0 Hr1]
  · isplitl [HX]; · iexact HX
    isplitl [HY]; · iexact HY
    isplitl [Hr0] <;> iassumption
  isplitl [Hv Hp]
  · isplitl [Hv] <;> iassumption
  isplitl [HA] <;> iassumption

theorem wp_iters (Kt : PUnit → sProp 𝕄) : ∀ (n j : ℕ) (h : j + n = 17) {k : P F},
    iprop(Ctx m K ∗ Inv m c j) ⊢ iprop((Inv m c 17 -∗ wpc c Kt k) -∗ wpc c Kt (iters c n j h k))
  | 0, j, h, k => by
    obtain rfl : j = 17 := h
    unfold iters
    iintro ⟨-, H⟩ Hk
    iapply Hk; iexact H
  | n + 1, j, h, k => by
    have hj : j < 17 := by omega
    have hs : j + 1 + n = 17 := by omega
    unfold iters
    iintro ⟨#HC, H⟩ Hk
    iapply (wp_iter m K c Kt j hj) $$ [H]
    · isplitr; · iexact HC
      iexact H
    iintro H
    iapply (wp_iters Kt n (j + 1) hs) $$ [H]
    · isplitr; · iexact HC
      iexact H
    iexact Hk

end Cert.KernelIdeal.Proto

end
-- ==== Proof.Ideal.Cover.lean ====
/- The slots make up their buffers, the four blocks the staging buffer, and the two devices' rows of every chunk the
   result. -/
module

public import proofs.«01_k».proof.Proof.Ideal.Sched

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Held

variable {F : FTy → Type} [FloatOps F]

local notation "𝕄" => MT nD τ sig Unit (Elt F) ℕ UU ℕ

variable (m : (ℓ : Loc nD τ sig) → Buf (Elt F) ℓ) (c : Dev nD)

/-! ## Slots -/

theorem slot2_disj (a b : Fin 2) (h : a ≠ b) : Disjoint (slot2 a.val) (slot2 b.val) := Finset.disjoint_left.mpr fun i hi hj => h (Fin.ext (by
  have h1 := (Finset.mem_filter.mp hi).2
  have h2 := (Finset.mem_filter.mp hj).2
  rw [h1] at h2; omega))
theorem slot2_cover (i : S2x2048x256.Idx) : ∃ a : Fin 2, i ∈ slot2 a.val :=
  ⟨⟨(i 0).val, (i 0).isLt⟩, Finset.mem_filter.mpr ⟨Finset.mem_univ _, (Nat.mod_eq_of_lt (i 0).isLt).symm⟩⟩
theorem slot4_disj (a b : Fin 4) (h : a ≠ b) : Disjoint (slot4 a.val) (slot4 b.val) := Finset.disjoint_left.mpr fun i hi hj => h (Fin.ext (by
  have h1 := (Finset.mem_filter.mp hi).2
  have h2 := (Finset.mem_filter.mp hj).2
  rw [h1] at h2; omega))
theorem slot4_cover (i : S4x2048x256.Idx) : ∃ a : Fin 4, i ∈ slot4 a.val :=
  ⟨⟨(i 0).val, (i 0).isLt⟩, Finset.mem_filter.mpr ⟨Finset.mem_univ _, (Nat.mod_eq_of_lt (i 0).isLt).symm⟩⟩

theorem fin4_sep (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]
  rfl
theorem fin2_sep (Φ : Fin 2 → sProp 𝕄) : bigSep Finset.univ Φ = iprop(Φ 0 ∗ Φ 1) := bigSep_fin_two Φ

/-! ## The staging blocks -/

theorem mem_aDst (k : Fin 4) (i : S2048x2048.Idx) : i ∈ (aDst k).view.set ↔ (i 1).val / 512 = k.val := by
  rw [show (aDst k).view.set = (rectA k).set from View.set_slice_whole _ _, Rect.mem_set_unit]
  constructor
  · intro h
    have h1 : 512 * k.val ≤ (i 1).val := (h 1).1
    have h2 : (i 1).val < 512 * k.val + 512 := (h 1).2
    omega
  · intro h a
    have hk := k.isLt
    fin_cases a
    · exact ⟨Nat.zero_le _, by show (i 0).val < 0 + 2048; have : (i 0).val < 2048 := (i 0).isLt; omega⟩
    · exact ⟨by show 512 * k.val ≤ (i 1).val; omega, by show (i 1).val < 512 * k.val + 512; omega⟩
theorem aDst_disj (a b : Fin 4) (h : a ≠ b) : Disjoint (aDst a).view.set (aDst b).view.set := Finset.disjoint_left.mpr fun i hi hj => h (Fin.ext
  (((mem_aDst a i).mp hi).symm.trans ((mem_aDst b i).mp hj)))
theorem aDst_cover (i : S2048x2048.Idx) : ∃ a : Fin 4, i ∈ (aDst a).view.set :=
  ⟨⟨(i 1).val / 512, by have : (i 1).val < 2048 := (i 1).isLt; omega⟩, (mem_aDst _ i).mpr rfl⟩

/-! ## The result's regions -/

theorem mem_outAt (d : Dev nD) (j : Fin 17) (i : S4096x4096.Idx) :
    i ∈ (outAt d j).view.set ↔ (i 0).val / 2048 = d.val % 2 ∧ ((i 1).val + 128) / 256 = j.val := by
  have hc := col_add_wid j
  have ho := outOff_eq d j
  have hj := j.isLt
  have h0' : (i 0).val < 4096 := (i 0).isLt
  have h1' : (i 1).val < 4096 := (i 1).isLt
  have e1 : col j.val = 256 * j.val - 128 := by unfold col; rw [if_pos hj]
  have e2 : col (j.val + 1) = if j.val + 1 < 17 then 256 * (j.val + 1) - 128 else 4096 := rfl
  rw [show (outAt d j).view.set = (Rect.unit (s := S4096x4096) (outOff d j) (P2 (wid j.val)).size (inbOut d j)).set from View.set_slice_whole _ _, Rect.mem_set_unit, ho]
  constructor
  · intro h
    have h1 : 2048 * (d.val % 2) ≤ (i 0).val := (h 0).1
    have h2 : (i 0).val < 2048 * (d.val % 2) + 2048 := (h 0).2
    have h3 : col j.val ≤ (i 1).val := (h 1).1
    have h4 : (i 1).val < col j.val + wid j.val := (h 1).2
    rw [hc, e2] at h4
    split at h4 <;> omega
  · rintro ⟨h1, h2⟩ a
    fin_cases a
    · exact ⟨by show 2048 * (d.val % 2) ≤ (i 0).val; omega, by show (i 0).val < 2048 * (d.val % 2) + 2048; omega⟩
    · refine ⟨by show col j.val ≤ (i 1).val; omega, ?_⟩
      show (i 1).val < col j.val + wid j.val
      rw [hc, e2]
      split <;> omega

theorem yp_mod : ∀ d : Dev nD, (yp d).val % 2 = 1 - d.val % 2 := by decide
/-- The device whose rows the result's regions hold: the device itself, or its neighbour across `y`. -/
abbrev rowDev (b : Bool) : Dev nD := if b then yp c else c
abbrev outReg (x : Bool × Fin 17) : Finset S4096x4096.Idx := (outAt (rowDev c x.1) x.2).view.set

theorem outReg_disj (x y : Bool × Fin 17) (h : x ≠ y) : Disjoint (outReg c x) (outReg c y) := Finset.disjoint_left.mpr fun i hi hj => by
  obtain ⟨h1, h2⟩ := (mem_outAt _ _ i).mp hi
  obtain ⟨h3, h4⟩ := (mem_outAt _ _ i).mp hj
  have hy := yp_mod c
  obtain ⟨b, j⟩ := x
  obtain ⟨b', j'⟩ := y
  have e : j = j' := Fin.ext (h2.symm.trans h4)
  subst e
  have hb : b ≠ b' := fun e => h (by rw [e])
  rw [h1] at h3
  cases b <;> cases b' <;> first | exact hb rfl | (simp only [rowDev, if_true, if_false, Bool.false_eq_true] at h3; omega)
theorem outReg_cover (i : S4096x4096.Idx) : ∃ x, i ∈ outReg c x := by
  have hy := yp_mod c
  have h0' : (i 0).val < 4096 := (i 0).isLt
  have h1' : (i 1).val < 4096 := (i 1).isLt
  have hj : ((i 1).val + 128) / 256 < 17 := by omega
  by_cases h : (i 0).val / 2048 = c.val % 2
  · exact ⟨(false, ⟨_, hj⟩), (mem_outAt _ _ i).mpr ⟨h, rfl⟩⟩
  · exact ⟨(true, ⟨_, hj⟩), (mem_outAt _ _ i).mpr ⟨by show _ = (yp c).val % 2; omega, rfl⟩⟩

theorem out_sep (Φ : Bool × Fin 17 → sProp 𝕄) : bigSep Finset.univ Φ
    = iprop((bigSep Finset.univ fun j => Φ (false, j)) ∗ bigSep Finset.univ fun j => Φ (true, j)) := by
  rw [bigSep_univ_prod, show (Finset.univ : Finset Bool) = {false, true} by decide, bigSep_insert (by decide), bigSep_singleton]
  rfl

/-! ## Cutting and pasting -/

theorem cut_bd : (free (lBd c) Finset.univ : sProp 𝕄) ⊢ iprop(free (lBd c) (slot2 0) ∗ free (lBd c) (slot2 1)) :=
  (free_cut (ℓ := lBd c) (fun a : Fin 2 => slot2 a.val) slot2_disj slot2_cover).trans (Entails.of_eq (fin2_sep _))
theorem cut_send : (free (lSend c) Finset.univ : sProp 𝕄) ⊢ iprop(free (lSend c) (slot2 0) ∗ free (lSend c) (slot2 1)) :=
  (free_cut (ℓ := lSend c) (fun a : Fin 2 => slot2 a.val) slot2_disj slot2_cover).trans (Entails.of_eq (fin2_sep _))
theorem cut_r : (free (lR c) Finset.univ : sProp 𝕄) ⊢ iprop(free (lR c) (slot2 0) ∗ free (lR c) (slot2 1)) :=
  (free_cut (ℓ := lR c) (fun a : Fin 2 => slot2 a.val) slot2_disj slot2_cover).trans (Entails.of_eq (fin2_sep _))
theorem cut_recv : (free (lRecv c) Finset.univ : sProp 𝕄) ⊢ iprop(recvFree c 0 ∗ recvFree c 1 ∗ recvFree c 2 ∗ recvFree c 3) :=
  (free_cut (ℓ := lRecv c) (fun a : Fin 4 => slot4 a.val) slot4_disj slot4_cover).trans (Entails.of_eq (fin4_sep _))
theorem cut_stage : (free (lAf c) Finset.univ : sProp 𝕄)
    ⊢ iprop(free (lAf c) (aDst 0).view.set ∗ free (lAf c) (aDst 1).view.set ∗ free (lAf c) (aDst 2).view.set ∗ free (lAf c) (aDst 3).view.set) :=
  (free_cut (ℓ := lAf c) (fun a : Fin 4 => (aDst a).view.set) aDst_disj aDst_cover).trans (Entails.of_eq (fin4_sep _))
theorem cut_out : (free (lOut c) Finset.univ : sProp 𝕄)
    ⊢ iprop((bigSep Finset.univ fun j => outFree c c j) ∗ bigSep Finset.univ fun j => outFree c (yp c) j) :=
  (free_cut (ℓ := lOut c) (outReg c) (outReg_disj c) (outReg_cover c)).trans (Entails.of_eq (out_sep _))

section
include m

theorem paste_bd : iprop(free (lBd c) (slot2 0) ∗ free (lBd c) (slot2 1)) ⊢ (free (lBd c) Finset.univ : sProp 𝕄) :=
  (Entails.of_eq (fin2_sep _).symm).trans ((held_paste (ℓ := lBd c) (fun a : Fin 2 => slot2 a.val) slot2_disj slot2_cover (m (lBd c)) fun _ _ => True).trans held_forget)
theorem paste_send : iprop(free (lSend c) (slot2 0) ∗ free (lSend c) (slot2 1)) ⊢ (free (lSend c) Finset.univ : sProp 𝕄) :=
  (Entails.of_eq (fin2_sep _).symm).trans ((held_paste (ℓ := lSend c) (fun a : Fin 2 => slot2 a.val) slot2_disj slot2_cover (m (lSend c)) fun _ _ => True).trans held_forget)
theorem paste_r : iprop(free (lR c) (slot2 0) ∗ free (lR c) (slot2 1)) ⊢ (free (lR c) Finset.univ : sProp 𝕄) :=
  (Entails.of_eq (fin2_sep _).symm).trans ((held_paste (ℓ := lR c) (fun a : Fin 2 => slot2 a.val) slot2_disj slot2_cover (m (lR c)) fun _ _ => True).trans held_forget)
theorem paste_recv : iprop(recvFree c 0 ∗ recvFree c 1 ∗ recvFree c 2 ∗ recvFree c 3) ⊢ (free (lRecv c) Finset.univ : sProp 𝕄) :=
  (Entails.of_eq (fin4_sep _).symm).trans ((held_paste (ℓ := lRecv c) (fun a : Fin 4 => slot4 a.val) slot4_disj slot4_cover (m (lRecv c)) fun _ _ => True).trans held_forget)
theorem paste_stage : iprop(free (lAf c) (aDst 0).view.set ∗ free (lAf c) (aDst 1).view.set ∗ free (lAf c) (aDst 2).view.set ∗ free (lAf c) (aDst 3).view.set)
    ⊢ (free (lAf c) Finset.univ : sProp 𝕄) :=
  (Entails.of_eq (fin4_sep _).symm).trans ((held_paste (ℓ := lAf c) (fun a : Fin 4 => (aDst a).view.set) aDst_disj aDst_cover (m (lAf c)) fun _ _ => True).trans held_forget)

end

/-- Contents of the result with every region right. -/
def outOK (f : S4096x4096.Idx → Elt F .bf16) : Prop := ∀ (b : Bool) (j : Fin 17), isOut m (rowDev c b) j f

theorem isOut_congr (d : Dev nD) (j : Fin 17) {f g : S4096x4096.Idx → Elt F .bf16} (h : isOut m d j f) (e : ∀ i ∈ (outAt d j).view.set, g i = f i) : isOut m d j g := by
  unfold isOut at h ⊢
  rw [← h]
  funext x
  rw [View.read_apply, View.read_apply]
  exact congrArg _ (e _ (Finset.mem_map_of_mem _ (Finset.mem_univ x)))

theorem paste_out : iprop((bigSep Finset.univ fun j => outHeld m c c j) ∗ bigSep Finset.univ fun j => outHeld m c (yp c) j)
    ⊢ held (lOut c) Finset.univ fullShare (outOK m c) :=
  (Entails.of_eq (out_sep (fun x => outHeld m c (rowDev c x.1) x.2)).symm).trans
    ((held_paste (ℓ := lOut c) (outReg c) (outReg_disj c) (outReg_cover c) (m (lOut c)) fun x => isOut m (rowDev c x.1) x.2).trans
      (held_mono fun g hg b j => by
        obtain ⟨f, hf, e⟩ := hg (b, j)
        exact isOut_congr m (rowDev c b) j hf e))

end Cert.KernelIdeal.Proto

end
-- ==== Proof.Ideal.Body.lean ====
/- The whole body: from what a device is given at the start to what it gives back at the end. -/
module

public import proofs.«01_k».proof.Proof.Ideal.Loop
public import proofs.«01_k».proof.Proof.Ideal.Cover

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Held

variable {F : FTy → Type} [FloatOps F]

local notation "𝕄" => MT nD τ sig Unit (Elt F) ℕ UU ℕ

variable (m : (ℓ : Loc nD τ sig) → Buf (Elt F) ℓ) (K : Dev nD × Option Own → ℕ) (c : Dev nD)

/-! ## Families over a device's own cells -/

theorem own_sep (Φ : Own → sProp 𝕄) : bigSep Finset.univ Φ
    = iprop((bigSep Finset.univ fun k => Φ (oA k)) ∗ (bigSep Finset.univ fun j => Φ (oB j)) ∗ (bigSep Finset.univ fun j => Φ (oXS j))
      ∗ (bigSep Finset.univ fun j => Φ (oXR j)) ∗ (bigSep Finset.univ fun j => Φ (oYS j)) ∗ (bigSep Finset.univ fun j => Φ (oYR j)) ∗ bigSep Finset.univ fun j => Φ (oL j)) := by
  rw [bigSep_univ_sum, bigSep_univ_prod, show (Finset.univ : Finset (Fin 6)) = {0, 1, 2, 3, 4, 5} by decide, bigSep_insert (by decide), bigSep_insert (by decide),
    bigSep_insert (by decide), bigSep_insert (by decide), bigSep_insert (by decide), bigSep_singleton]
  rfl

/-! ## The shares the arguments are read under -/

theorem argB_cut : argB m c fullShare ⊢ iprop(argB m c (qB 0) ∗ argB m c (qB 1)) :=
  (pointsTo_share (PosShare.mem_left_op_right fullShare)).1
theorem argB_paste : iprop(argB m c (qB 0) ∗ argB m c (qB 1)) ⊢ argB m c fullShare :=
  (pointsTo_share (PosShare.mem_left_op_right fullShare)).2
theorem argA_cut : argA m c fullShare ⊢ iprop(argA m c (qA 0) ∗ argA m c (qA 1) ∗ argA m c (qA 2) ∗ argA m c (qA 3)) := by
  iintro H
  ihave H := (pointsTo_share (I := Finset.univ) (f := m (lA c)) (PosShare.mem_left_op_right fullShare)).1 $$ H
  icases H with ⟨Hl, Hr⟩
  ihave Hl := (pointsTo_share (I := Finset.univ) (f := m (lA c)) (PosShare.mem_left_op_right fullShare.left)).1 $$ Hl
  icases Hl with ⟨H0, H1⟩
  ihave Hr := (pointsTo_share (I := Finset.univ) (f := m (lA c)) (PosShare.mem_left_op_right fullShare.right)).1 $$ Hr
  icases Hr with ⟨H2, H3⟩
  isplitl [H0]; · iexact H0
  isplitl [H1]; · iexact H1
  isplitl [H2]; · iexact H2
  iexact H3
theorem argA_paste : iprop(argA m c (qA 0) ∗ argA m c (qA 1) ∗ argA m c (qA 2) ∗ argA m c (qA 3)) ⊢ argA m c fullShare := by
  iintro ⟨H0, H1, H2, H3⟩
  iapply (pointsTo_share (I := Finset.univ) (f := m (lA c)) (PosShare.mem_left_op_right fullShare)).2
  isplitl [H0 H1]
  · iapply (pointsTo_share (I := Finset.univ) (f := m (lA c)) (PosShare.mem_left_op_right fullShare.left)).2
    isplitl [H0]; · iexact H0
    iexact H1
  · iapply (pointsTo_share (I := Finset.univ) (f := m (lA c)) (PosShare.mem_left_op_right fullShare.right)).2
    isplitl [H2]; · iexact H2
    iexact H3

/-! ## The end -/

theorem wp_drain (Kt : PUnit → sProp 𝕄) : ∀ (n j : ℕ) (h : j + n = 17) {k : P F},
    iprop(Ctx m K ∗ famYR m c j ∗ Owes c 0) ⊢ iprop(((famYR m c 17 ∗ Owes c 0) -∗ wpc c Kt k) -∗ wpc c Kt (drain c n j h k))
  | 0, j, h, k => by
    obtain rfl : j = 17 := h
    unfold drain
    iintro ⟨-, H, HO⟩ Hk
    iapply Hk
    isplitl [H] <;> iassumption
  | n + 1, j, h, k => by
    have hj : j < 17 := by omega
    have hs : j + 1 + n = 17 := by omega
    unfold drain
    iintro ⟨#HC, H, HO⟩ Hk
    ihave H := (famYR_end m c j hj) $$ H
    icases H with ⟨Hp, H⟩
    iapply (wp_awaitYR m K c Kt c ⟨j, hj⟩) $$ [Hp HO]
    · isplitr; · iexact HC
      isplitl [Hp] <;> iassumption
    iintro ⟨HO, He, Ho⟩
    iapply (wp_drain Kt n (j + 1) hs) $$ [H He Ho HO]
    · isplitr; · iexact HC
      isplitl [H He Ho]
      · iapply H; isplitl [He] <;> iassumption
      iexact HO
    iexact Hk

/-- The end, with its last waits written as the iterations'. -/
theorem ending_eq (d : Dev nD) : ending (F := F) d = finish d 16 (by decide)
    (if h : 2 ≤ 17 then awaitXS ⟨17 - 2, by omega⟩ (if h : 2 ≤ 17 then awaitYS d ⟨17 - 2, by omega⟩ (awaitL d ⟨17 - 2, by omega⟩
      (if h : 2 ≤ 18 then awaitXS ⟨18 - 2, by omega⟩ (if h : 2 ≤ 18 then awaitYS d ⟨18 - 2, by omega⟩ (awaitL d ⟨18 - 2, by omega⟩ (drain d 17 0 rfl (.ret ⟨⟩)))
          else drain d 17 0 rfl (.ret ⟨⟩))
        else .ret ⟨⟩)) else .ret ⟨⟩) else .ret ⟨⟩) := rfl

theorem wp_ending (Kt : PUnit → sProp 𝕄) :
    iprop(Ctx m K ∗ Inv m c 17 ∗ famYR m c 0)
      ⊢ iprop(((famB c 17 17 ∗ argB m c fullShare ∗ free (lBd c) Finset.univ) ∗ (famXS c 17 17 ∗ free (lSend c) Finset.univ) ∗ (famXR c 17 ∗ free (lRecv c) Finset.univ)
          ∗ (famY m c 17 17 ∗ famYR m c 17 ∗ free (lR c) Finset.univ) ∗ free (lAb c) Finset.univ ∗ Owes c 0 -∗ wpc c Kt (.ret ⟨⟩))
        -∗ wpc c Kt (ending c)) := by
  have h16 : 16 < 17 := by decide
  rw [ending_eq]
  unfold Inv
  rw [famB_past c (p := 17) (Nat.le_refl _), show bleft m c 17 = bl m c 17 from if_pos (Nat.le_refl _)]
  show iprop(Ctx m K ∗ ((famB c 17 17 ∗ bl m c 18 ∗ bl m c 17) ∗ (famXS c 17 (17 - 2) ∗ sl m c 17 ∗ sl m c (16 + 2))
    ∗ (famXR c 16 ∗ famY m c 16 (16 - 2) ∗ rl c 16 ∗ rl c 17) ∗ (recvs c 17 ∗ peers c 17)
    ∗ held (lAb c) Finset.univ fullShare (fun f => f = A16 m c) ∗ Owes c (due c 17 16)) ∗ famYR m c 0) ⊢ _
  rw [sl_keep m c 16 h16]
  unfold bl
  iintro ⟨#HC, ⟨⟨HB, ⟨Hb0, Ha0⟩, Hb1, Ha1⟩, ⟨HXS, Hs1, Hs0⟩, ⟨HX, HY, Hr0, Hr1⟩, ⟨Hv, -⟩, HA, HO⟩, HYR⟩ Hk
  iapply (wp_finish m K c Kt 16 h16 17 (Or.inl (by decide))) $$ [HX HY Hr0 Hs0 HO]
  · isplitr; · iexact HC
    isplitl [HX]; · iexact HX
    isplitl [HY]; · iexact HY
    isplitl [Hr0]; · iexact Hr0
    isplitl [Hs0] <;> iassumption
  iintro ⟨HX, HY, Hr0, Hs0, Hw, -, HO⟩
  ihave HO := (Entails.of_eq (congrArg (Owes c) (due_end c))) $$ HO
  iapply (wp_freeSend m K c Kt 17 17 (by decide) (Or.inl (by decide)) (Above.zero 0)) $$ [HXS Hs1 HO]
  · isplitr; · iexact HC
    isplitl [HXS]; · iexact HXS
    isplitl [Hs1] <;> iassumption
  iintro ⟨HXS, Hs1, HO⟩
  iapply (wp_freeR m K c Kt 17 17 (by decide) (Or.inl (by decide)) (Above.zero 0)) $$ [HY Hr1 HO]
  · isplitr; · iexact HC
    isplitl [HY]; · iexact HY
    isplitl [Hr1] <;> iassumption
  iintro ⟨HY, Hr1, HO⟩
  ihave Hs0 := (Entails.of_eq (sl_keep m c 16 h16).symm) $$ Hs0
  iapply (wp_freeSend m K c Kt 17 18 (by decide) (Or.inl (by decide)) (Above.zero 0)) $$ [HXS Hs0 HO]
  · isplitr; · iexact HC
    isplitl [HXS]; · iexact HXS
    isplitl [Hs0]; · iexact Hs0
    iexact HO
  iintro ⟨HXS, Hs0, HO⟩
  iapply (wp_freeR m K c Kt 17 18 (by decide) (Or.inl (by decide)) (Above.zero 0)) $$ [HY Hr0 HO]
  · isplitr; · iexact HC
    isplitl [HY]; · iexact HY
    isplitl [Hr0]; · iexact Hr0
    iexact HO
  iintro ⟨HY, Hr0, HO⟩
  iapply (wp_drain m K c Kt 17 0 rfl) $$ [HYR HO]
  · isplitr; · iexact HC
    isplitl [HYR] <;> iassumption
  iintro ⟨HYR, HO⟩
  iapply Hk
  isplitl [HB Hb0 Ha0 Hb1 Ha1]
  · isplitl [HB]; · iexact HB
    isplitl [Ha0 Ha1]
    · iapply (argB_paste m c)
      isplitl [Ha0]; · iexact Ha0
      iexact Ha1
    iapply (paste_bd m c)
    isplitl [Hb0]; · iexact Hb0
    iexact Hb1
  isplitl [HXS Hs0 Hs1]
  · isplitl [HXS]; · iexact HXS
    iapply (paste_send m c)
    isplitl [Hs0]; · iexact Hs0
    iexact Hs1
  isplitl [HX Hv Hw]
  · isplitl [HX]; · iexact HX
    iapply (paste_recv m c)
    ihave Hv := (Entails.of_eq (show recvs c 17 = iprop(recvFree c 3 ∗ emp ∗ recvFree c 1 ∗ recvFree c 2) from rfl)) $$ Hv
    icases Hv with ⟨H3, -, H1, H2⟩
    isplitl [Hw]; · iexact Hw
    isplitl [H1]; · iexact H1
    isplitl [H2] <;> iassumption
  isplitl [HY HYR Hr0 Hr1]
  · isplitl [HY]; · iexact HY
    isplitl [HYR]; · iexact HYR
    iapply (paste_r m c)
    isplitl [Hr0]; · iexact Hr0
    iexact Hr1
  isplitl [HA]; · iapply (held_forget (P := fun f => f = A16 m c)); iexact HA
  iexact HO

/-! ## The whole -/

/-- What a device is given: its cells' tokens and places, its arguments, its result and its buffers. -/
def Start : sProp 𝕄 :=
  iprop(((bigSep Finset.univ fun k => fresh c (oA k)) ∗ famB c 0 0 ∗ famXS c 0 0 ∗ famXR c 0
      ∗ ((bigSep Finset.univ fun j => fresh c (oYS j)) ∗ (bigSep Finset.univ fun j => dutyTok ER (cell (yp c) (oYR j)) 0 false) ∗ bigSep Finset.univ fun j => fresh c (oL j)) ∗ famYR m c 0)
    ∗ (dutyTok ER (barCell (xp c)) 0 false ∗ dutyTok ER (barCell (yp c)) 0 true ∗ cred (tallyAt (barCell c) () 2) ∗ atPos ER (barCell c) 0 ∅ 0)
    ∗ (argA m c fullShare ∗ argB m c fullShare ∗ free (lOut c) Finset.univ)
    ∗ (free (lAf c) Finset.univ ∗ free (lAb c) Finset.univ ∗ free (lBd c) Finset.univ ∗ free (lSend c) Finset.univ ∗ free (lRecv c) Finset.univ ∗ free (lR c) Finset.univ)
    ∗ Owes c (O₀ c))
/-- What it gives back: every cell used, the arguments as they were, the result right. -/
def End : sProp 𝕄 :=
  iprop(((bigSep Finset.univ fun o : Own => ended c o) ∗ atPos ER (barCell c) 1 ∅ 0)
    ∗ (argA m c fullShare ∗ argB m c fullShare ∗ held (lOut c) Finset.univ fullShare (outOK m c))
    ∗ (free (lAf c) Finset.univ ∗ free (lAb c) Finset.univ ∗ free (lBd c) Finset.univ ∗ free (lSend c) Finset.univ ∗ free (lRecv c) Finset.univ ∗ free (lR c) Finset.univ)
    ∗ Owes c 0)

/-- The result's transfers before the first. -/
theorem famY_zero : iprop((bigSep Finset.univ fun j => fresh c (oYS j)) ∗ (bigSep Finset.univ fun j => dutyTok ER (cell (yp c) (oYR j)) 0 false)
      ∗ (bigSep Finset.univ fun j => fresh c (oL j)) ∗ (bigSep Finset.univ fun j => outFree (yp c) c j) ∗ bigSep Finset.univ fun j => outFree c c j) ⊢ famY m c 0 0 := by
  unfold famY
  rw [family_fresh, bigSep_sep', bigSep_sep', bigSep_sep', bigSep_sep']
  iintro ⟨H1, H2, H3, H4, H5⟩
  isplitl [H1 H2 H4]
  · isplitl [H1]; · iexact H1
    isplitl [H2] <;> iassumption
  isplitl [H3] <;> iassumption
/-- All of them made: the device's cells, and the two devices' rows of the result. -/
theorem fam_end : iprop((bigSep Finset.univ fun k => ended c (oA k)) ∗ famB c 17 17 ∗ famXS c 17 17 ∗ famXR c 17 ∗ famY m c 17 17 ∗ famYR m c 17)
    ⊢ iprop((bigSep Finset.univ fun o : Own => ended c o) ∗ held (lOut c) Finset.univ fullShare (outOK m c)) := by
  unfold famB famXS famXR famY famYR
  rw [family_over, family_over, family_over, family_over, family_over, own_sep, bigSep_sep', bigSep_sep', bigSep_sep']
  iintro ⟨HA, HB, HXS, HXR, ⟨HYS, HL, Ho⟩, HYR, Ho'⟩
  isplitl [HA HB HXS HXR HYS HL HYR]
  · isplitl [HA]; · iexact HA
    isplitl [HB]; · iexact HB
    isplitl [HXS]; · iexact HXS
    isplitl [HXR]; · iexact HXR
    isplitl [HYS]; · iexact HYS
    isplitl [HYR] <;> iassumption
  iapply (paste_out m c)
  isplitl [Ho] <;> iassumption

/-- What a device holds when the iterations begin. -/
theorem inv_zero : iprop(famB c 1 0 ∗ (free (lBd c) (slot2 1) ∗ argB m c (qB 1)) ∗ famXS c 0 0 ∗ free (lSend c) (slot2 0) ∗ free (lSend c) (slot2 1)
      ∗ famXR c 0 ∗ famY m c 0 0 ∗ free (lR c) (slot2 0) ∗ free (lR c) (slot2 1) ∗ (recvFree c 2 ∗ recvFree c 3) ∗ (recvFree (xp c) 0 ∗ recvFree (xp c) 1)
      ∗ held (lAb c) Finset.univ fullShare (fun f => f = A16 m c) ∗ Owes c (due c 0 0)) ⊢ Inv m c 0 := by
  unfold Inv bl recvs peers
  rw [sl_free m c 0 (by omega), sl_free m c 1 (by omega), show bleft m c 0 = iprop(emp) from if_neg (by omega), show (0 : ℕ) - 1 = 0 from rfl,
    rl_free c 0 (by omega), rl_free c (0 + 1) (by omega), if_pos (rfl : 0 = 0), if_neg (by decide : ¬ 16 ≤ 0), if_neg (by decide : ¬ 17 ≤ 0), if_pos (by decide : 0 < 17), if_pos (rfl : 0 = 0)]
  iintro ⟨HB, Hb, HXS, Hs0, Hs1, HX, HY, Hr0, Hr1, ⟨H2, H3⟩, Hp, HA, HO⟩
  isplitl [HB Hb]
  · isplitl [HB]; · iexact HB
    isplitl [Hb]; · iexact Hb
    iempintro
  isplitl [HXS Hs0 Hs1]
  · isplitl [HXS]; · iexact HXS
    isplitl [Hs0] <;> iassumption
  isplitl [HX HY Hr0 Hr1]
  · isplitl [HX]; · iexact HX
    isplitl [HY]; · iexact HY
    isplitl [Hr0] <;> iassumption
  isplitl [H2 H3 Hp]
  · isplitl [H2 H3]
    · isplitl [H2]; · iexact H2
      isplitl [H3]; · iexact H3
      isplitr; · iempintro
      iempintro
    iexact Hp
  isplitl [HA] <;> iassumption

theorem wp_body (Kt : PUnit → sProp 𝕄) : iprop(Ctx m K ∗ Start m c) ⊢ iprop((End m c -∗ wpc c Kt (.ret ⟨⟩)) -∗ wpc c Kt bodyProg) := by
  unfold bodyProg Start End
  rw [fin4_sep]
  iintro ⟨#HC, ⟨⟨Hf0, Hf1, Hf2, Hf3⟩, HB, HXS, HX, ⟨HYS, HYt, HL⟩, HYR⟩, ⟨Htx, Hty, Hcb, Hat⟩, ⟨Ha, Hb, Ho⟩, ⟨HAf, HAb, HBd, HSe, HRe, HR⟩, HO⟩ Hk
  simp only [wp_deviceId]
  ihave Hb := (argB_cut m c) $$ Hb
  icases Hb with ⟨Hb0, Hb1⟩
  ihave HBd := (cut_bd c) $$ HBd
  icases HBd with ⟨Hd0, Hd1⟩
  ihave HSe := (cut_send c) $$ HSe
  icases HSe with ⟨Hs0, Hs1⟩
  ihave HR := (cut_r c) $$ HR
  icases HR with ⟨Hr0, Hr1⟩
  ihave HRe := (cut_recv c) $$ HRe
  icases HRe with ⟨Hv0, Hv1, Hv2, Hv3⟩
  ihave HAf := (cut_stage c) $$ HAf
  icases HAf with ⟨Hg0, Hg1, Hg2, Hg3⟩
  ihave Ho := (cut_out c) $$ Ho
  icases Ho with ⟨Ho, Ho'⟩
  ihave Ha := (argA_cut m c) $$ Ha
  icases Ha with ⟨Ha0, Ha1, Ha2, Ha3⟩
  -- B's first chunk and A's blocks are fetched
  ihave HB := (famB_start c 0 0 (by decide) (Nat.le_refl _)) $$ HB
  icases HB with ⟨Hf, HB⟩
  iapply (wp_fetchB m K c Kt ⟨0, by decide⟩) $$ [Hf Hb0 Hd0]
  · isplitr; · iexact HC
    isplitl [Hf]; · iexact Hf
    isplitl [Hb0]; · iexact Hb0
    iexact Hd0
  iintro Hp
  ispecialize HB $$ Hp
  iapply (wp_fetchA m K c Kt 0) $$ [Hf0 Ha0 Hg0]
  · isplitr; · iexact HC
    isplitl [Hf0]; · iexact Hf0
    isplitl [Ha0] <;> iassumption
  iintro Hf0
  iapply (wp_fetchA m K c Kt 1) $$ [Hf1 Ha1 Hg1]
  · isplitr; · iexact HC
    isplitl [Hf1]; · iexact Hf1
    isplitl [Ha1] <;> iassumption
  iintro Hf1
  iapply (wp_fetchA m K c Kt 2) $$ [Hf2 Ha2 Hg2]
  · isplitr; · iexact HC
    isplitl [Hf2]; · iexact Hf2
    isplitl [Ha2] <;> iassumption
  iintro Hf2
  iapply (wp_fetchA m K c Kt 3) $$ [Hf3 Ha3 Hg3]
  · isplitr; · iexact HC
    isplitl [Hf3]; · iexact Hf3
    isplitl [Ha3] <;> iassumption
  iintro Hf3
  -- the handshake: the neighbours' receive slots and rows come with it
  iapply (wp_handshake m K c Kt) $$ [Htx Hty Hcb Hat Hv0 Hv1 Ho' HO]
  · isplitr; · iexact HC
    isplitl [Htx]; · iexact Htx
    isplitl [Hty]; · iexact Hty
    isplitl [Hcb]; · iexact Hcb
    isplitl [Hat]; · iexact Hat
    isplitl [Hv0 Hv1]
    · isplitl [Hv0] <;> iassumption
    isplitl [Ho'] <;> iassumption
  iintro ⟨HO, Hat, Hp, Hoy⟩
  -- A's blocks are rounded
  ihave HAb := (held_mono (Q := isAb m c 0) (fun f _ i hi => absurd hi (by omega))) $$ HAb
  iapply (wp_takeA m K c Kt 0 (above0 c 0 0)) $$ [Hf0 HAb HO]
  · isplitr; · iexact HC
    isplitl [Hf0]; · iexact Hf0
    isplitl [HAb]; · iexact HAb
    iexact HO
  iintro ⟨HO, He0, Ha0, Hg0, HAb⟩
  iapply (wp_takeA m K c Kt 1 (above0 c 0 0)) $$ [Hf1 HAb HO]
  · isplitr; · iexact HC
    isplitl [Hf1]; · iexact Hf1
    isplitl [HAb]; · iexact HAb
    iexact HO
  iintro ⟨HO, He1, Ha1, Hg1, HAb⟩
  iapply (wp_takeA m K c Kt 2 (above0 c 0 0)) $$ [Hf2 HAb HO]
  · isplitr; · iexact HC
    isplitl [Hf2]; · iexact Hf2
    isplitl [HAb]; · iexact HAb
    iexact HO
  iintro ⟨HO, He2, Ha2, Hg2, HAb⟩
  iapply (wp_takeA m K c Kt 3 (above0 c 0 0)) $$ [Hf3 HAb HO]
  · isplitr; · iexact HC
    isplitl [Hf3]; · iexact Hf3
    isplitl [HAb]; · iexact HAb
    iexact HO
  iintro ⟨HO, He3, Ha3, Hg3, HAb⟩
  ihave HAb := (Entails.of_eq (show (held (lAb c) Finset.univ fullShare (isAb m c ((3 : Fin 4).val + 1)) : sProp 𝕄) = held (lAb c) Finset.univ fullShare (isAb m c 4) from rfl)) $$ HAb
  ihave HAb := (held_mono (ℓ := lAb c) (P := isAb m c 4) (Q := fun f => f = A16 m c) (fun f hf => isAb_all m hf)) $$ HAb
  -- the iterations
  ihave HY := (famY_zero m c) $$ [HYS HYt HL Hoy Ho]
  · isplitl [HYS]; · iexact HYS
    isplitl [HYt]; · iexact HYt
    isplitl [HL]; · iexact HL
    isplitl [Hoy] <;> iassumption
  iapply (wp_iters m K c Kt 17 0 rfl) $$ [HB Hd1 Hb1 HXS Hs0 Hs1 HX HY Hr0 Hr1 Hv2 Hv3 Hp HAb HO]
  · isplitr; · iexact HC
    iapply (inv_zero m c)
    isplitl [HB]; · iexact HB
    isplitl [Hd1 Hb1]
    · isplitl [Hd1] <;> iassumption
    isplitl [HXS]; · iexact HXS
    isplitl [Hs0]; · iexact Hs0
    isplitl [Hs1]; · iexact Hs1
    isplitl [HX]; · iexact HX
    isplitl [HY]; · iexact HY
    isplitl [Hr0]; · iexact Hr0
    isplitl [Hr1]; · iexact Hr1
    isplitl [Hv2 Hv3]
    · isplitl [Hv2] <;> iassumption
    isplitl [Hp]; · iexact Hp
    isplitl [HAb] <;> iassumption
  iintro HI
  iapply (wp_ending m K c Kt) $$ [HI HYR]
  · isplitr; · iexact HC
    isplitl [HI] <;> iassumption
  iintro ⟨⟨HB, Hb, HBd⟩, ⟨HXS, HSe⟩, ⟨HX, HRe⟩, ⟨HY, HYR, HR⟩, HAb, HO⟩
  ihave HE := (fam_end m c) $$ [He0 He1 He2 He3 HB HXS HX HY HYR]
  · isplitl [He0 He1 He2 He3]
    · rw [fin4_sep]
      isplitl [He0]; · iexact He0
      isplitl [He1]; · iexact He1
      isplitl [He2] <;> iassumption
    isplitl [HB]; · iexact HB
    isplitl [HXS]; · iexact HXS
    isplitl [HX]; · iexact HX
    isplitl [HY] <;> iassumption
  icases HE with ⟨HE, Ho⟩
  iapply Hk
  isplitl [HE Hat]
  · isplitl [HE] <;> iassumption
  isplitl [Ha0 Ha1 Ha2 Ha3 Hb Ho]
  · isplitl [Ha0 Ha1 Ha2 Ha3]
    · iapply (argA_paste m c)
      isplitl [Ha0]; · iexact Ha0
      isplitl [Ha1]; · iexact Ha1
      isplitl [Ha2] <;> iassumption
    isplitl [Hb] <;> iassumption
  isplitl [Hg0 Hg1 Hg2 Hg3 HAb HBd HSe HRe HR]
  · isplitl [Hg0 Hg1 Hg2 Hg3]
    · iapply (paste_stage m c)
      isplitl [Hg0]; · iexact Hg0
      isplitl [Hg1]; · iexact Hg1
      isplitl [Hg2] <;> iassumption
    isplitl [HAb]; · iexact HAb
    isplitl [HBd]; · iexact HBd
    isplitl [HSe]; · iexact HSe
    isplitl [HRe] <;> iassumption
  iexact HO

end Cert.KernelIdeal.Proto

end
-- ==== Proof.Ideal.Launch.lean ====
/- The launch: every cell's invariant and tokens made and dealt, the body run on each device, the cells closed, and what
   the run leaves in memory. -/
module

public import proofs.«01_k».proof.Proof.Ideal.Body
public import proofs.«01_k».proof.Proof.Gen.KernelIdeal.Frame
public import Idealize.ShloMosaic.Lib.Pipeline.CollectiveSegs

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen Cert.Held

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem opt_sep (Φ : Option Own → sProp 𝕄) : bigSep Finset.univ Φ = iprop(Φ none ∗ bigSep Finset.univ fun o : Own => Φ (some o)) := by
  rw [show (Finset.univ : Finset (Option Own)) = insert none (Finset.univ.map Function.Embedding.some) from by
    ext x; cases x <;> simp, bigSep_insert (by simp), bigSep_map]
  rfl

theorem kcell_inj : Function.Injective (kcell : Dev nD × Option Own → GSem nD τ sig) := by
  rintro ⟨c, k⟩ ⟨c', k'⟩ h
  have h1 : c = c' := congrArg (fun g : GSem nD τ sig => g.1.1) h
  have h2 : k = k' := ksem_inj (congrArg Prod.snd h)
  rw [h1, h2]
def allCells : Finset (GSem nD τ sig) := Finset.univ.map ⟨kcell, kcell_inj⟩

/-- A token for each duty: every cell's first, and the barrier's second. -/
def tokAt : Dev nD × Option (Option Own) → GSem nD τ sig × ℕ × Bool
  | (c, none) => (barCell c, 0, true)
  | (c, some k) => (kcell (c, k), 0, false)
theorem tokAt_inj : Function.Injective tokAt := by
  rintro ⟨c, _ | k⟩ ⟨c', _ | k'⟩ h
  · have h1 : c = c' := congrArg (fun x : GSem nD τ sig × ℕ × Bool => x.1.1.1) h
    rw [h1]
  · exact absurd (show true = false from congrArg (fun x : GSem nD τ sig × ℕ × Bool => x.2.2) h) (by decide)
  · exact absurd (show false = true from congrArg (fun x : GSem nD τ sig × ℕ × Bool => x.2.2) h) (by decide)
  · have h1 := kcell_inj (congrArg (fun x : GSem nD τ sig × ℕ × Bool => x.1) h)
    rw [(Prod.mk.inj h1).1, (Prod.mk.inj h1).2]
def allToks : Finset (GSem nD τ sig × ℕ × Bool) := Finset.univ.map ⟨tokAt, tokAt_inj⟩

def u₀ : UU := (initOf (Pipeline.cells cfgs cellOf_inj) (Pipeline.launchToks cfgs cellOf_inj), initOf allCells allToks)

/-- The tokens of a device's own cells. -/
def minted (c : Dev nD) : sProp 𝕄 :=
  iprop(dutyTok ER (barCell c) 0 true ∗ dutyTok ER (barCell c) 0 false ∗ bigSep Finset.univ fun o : Own => dutyTok ER (cell c o) 0 false)

def G (c : Dev nD) : sProp 𝕄 :=
  iprop((bigSep Finset.univ fun k : Option Own => roundState ER (Rd m) (kcell (c, k)) 0)
    ∗ ((bigSep Finset.univ fun k : Option Own => atPos ER (kcell (c, k)) 0 ∅ 0) ∗ bigSep Finset.univ fun k : Option Own => reached ER (kcell (c, k)) 0) ∗ minted c)

theorem deal : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option Own => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    refine bigSep_congr fun c _ => ?_
    unfold minted
    rw [show (Finset.univ : Finset (Option (Option Own))) = insert none (Finset.univ.map Function.Embedding.some) from by
      ext x; cases x <;> simp, bigSep_insert (by simp), bigSep_map]
    exact congrArg (fun R => iprop(dutyTok ER (barCell c) 0 true ∗ R)) (opt_sep fun k => dutyTok ER (kcell (c, k)) 0 false)
  iintro HX
  imod (Rounds.fund ER (Rd m) allCells allToks) $$ HX with ⟨Hs, Hr, Ha, Ht⟩
  imodintro
  ihave Hs := (Entails.of_eq (hX fun g => roundState ER (Rd m) g 0)) $$ Hs
  ihave Ha := (Entails.of_eq (hX fun g => atPos ER g 0 ∅ 0)) $$ Ha
  ihave Hr := (Entails.of_eq (hX fun g => reached ER g 0)) $$ Hr
  ihave Ht := (Entails.of_eq hT) $$ Ht
  unfold G; rw [bigSep_sep', bigSep_sep', bigSep_sep']
  isplitl [Hs]; · iexact Hs
  isplitl [Ha Hr]
  · isplitl [Ha] <;> iassumption
  iexact Ht

/-! ## The tokens go to those who pay -/

def xpE : Dev nD ≃ Dev nD := Function.Involutive.toPerm xp xp_xp
def ypE : Dev nD ≃ Dev nD := Function.Involutive.toPerm yp yp_yp

/-- The tokens a device pays with, and its places. -/
def Hold (c : Dev nD) : sProp 𝕄 :=
  iprop((dutyTok ER (barCell (xp c)) 0 false ∗ dutyTok ER (barCell (yp c)) 0 true ∗ atPos ER (barCell c) 0 ∅ 0)
    ∗ (bigSep Finset.univ fun k => fresh c (oA k)) ∗ (bigSep Finset.univ fun j => fresh c (oB j))
    ∗ (bigSep Finset.univ fun j => iprop(fresh c (oXS j) ∗ dutyTok ER (cell (xp c) (oXR j)) 0 false))
    ∗ (bigSep Finset.univ fun j => atPos ER (cell c (oXR j)) 0 ∅ 0)
    ∗ ((bigSep Finset.univ fun j => fresh c (oYS j)) ∗ (bigSep Finset.univ fun j => dutyTok ER (cell (yp c) (oYR j)) 0 false) ∗ bigSep Finset.univ fun j => fresh c (oL j))
    ∗ bigSep Finset.univ fun j => atPos ER (cell c (oYR j)) 0 ∅ 0)

theorem around : iprop((bigSep Finset.univ fun c : Dev nD => bigSep Finset.univ fun k : Option Own => atPos ER (kcell (c, k)) 0 ∅ 0) ∗ bigSep Finset.univ fun c : Dev nD => minted c)
    ⊢ (bigSep Finset.univ fun c : Dev nD => Hold c : sProp 𝕄) := by
  unfold minted Hold fresh
  simp only [opt_sep, own_sep, bigSep_sep']
  rw [bigSep_univ_equiv xpE (fun c : Dev nD => (dutyTok ER (barCell c) 0 false : sProp 𝕄)),
    bigSep_univ_equiv ypE (fun c : Dev nD => (dutyTok ER (barCell c) 0 true : sProp 𝕄)),
    bigSep_univ_equiv xpE (fun c : Dev nD => bigSep Finset.univ fun j => (dutyTok ER (cell c (oXR j)) 0 false : sProp 𝕄)),
    bigSep_univ_equiv ypE (fun c : Dev nD => bigSep Finset.univ fun j => (dutyTok ER (cell c (oYR j)) 0 false : sProp 𝕄))]
  iintro ⟨⟨HaN, HaA, HaB, HaXS, HaXR, HaYS, HaYR, HaL⟩, Hy, Hx, HA, HB, HXS, HXR, HYS, HYR, HL⟩
  isplitl [Hx Hy HaN]
  · isplitl [Hx]; · iexact Hx
    isplitl [Hy]; · iexact Hy
    iexact HaN
  isplitl [HA HaA]
  · isplitl [HA]; · iexact HA
    iexact HaA
  isplitl [HB HaB]
  · isplitl [HB]; · iexact HB
    iexact HaB
  isplitl [HXS HaXS HXR]
  · isplitl [HXS HaXS]
    · isplitl [HXS]; · iexact HXS
      iexact HaXS
    iexact HXR
  isplitl [HaXR]; · iexact HaXR
  isplitl [HYS HaYS HYR HL HaL]
  · isplitl [HYS HaYS]
    · isplitl [HYS]; · iexact HYS
      iexact HaYS
    isplitl [HYR]; · iexact HYR
    isplitl [HL]; · iexact HL
    iexact HaL
  iexact HaYR

/-! ## The invariants -/

theorem ownSemFacts : Pipeline.OwnSemFacts cfg0.spec osem := ⟨by decide +kernel, osem_inj, fun _ w => w.elim0⟩

abbrev ownSems (c : Dev nD) : sProp 𝕄 := Pipeline.ownSems0 (Ix := Unit) (Name := ℕ) (U := UU) (Lvl := ℕ) (Val := Elt F) (τ := τ) osem c

theorem barSem_eq (c : Dev nD) : (unscopedSems0 c : sProp 𝕄) = semVal (barCell c) 0 := by
  unfold unscopedSems0; rw [bigSep_eq_bigSepL_of_eq [SemLoc.reg barS.sem] (by decide) (by decide)]; rfl
theorem counters_eq (c : Dev nD) : (bigSep Finset.univ fun k : Option Own => (semVal (kcell (c, k)) 0 : sProp 𝕄)) = iprop(unscopedSems0 c ∗ ownSems c) := by
  rw [opt_sep, barSem_eq]; rfl

theorem core_alloc (c : Dev nD) : iprop(ownSems c ∗ unscopedSems0 c ∗ G m c)
    ⊢ |={Set.univ}=> iprop((bigSep Finset.univ fun k => iprop(∃ κ : ℕ, cellInv ER (Rd m) κ (kcell (c, k))))
        ∗ ((bigSep Finset.univ fun k : Option Own => atPos ER (kcell (c, k)) 0 ∅ 0) ∗ bigSep Finset.univ fun k : Option Own => reached ER (kcell (c, k)) 0) ∗ minted c) := by
  unfold G
  iintro ⟨Ho, Hu, Hs, Hat, Ht⟩
  ihave Hv := (Entails.of_eq (counters_eq (F := F) c).symm) $$ [Ho Hu]
  · isplitl [Hu] <;> iassumption
  imod (show iprop((bigSep Finset.univ fun k : Option Own => semVal (kcell (c, k)) 0) ∗ bigSep Finset.univ fun k : Option Own => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hs] with Hi
  · isplitl [Hv] <;> iassumption
  imodintro
  isplitl [Hi]; · iexact Hi
  isplitl [Hat] <;> iassumption

/-- What every device may use, but for the levels. -/
def Recs (K : Dev nD × Option Own → ℕ) : sProp 𝕄 :=
  iprop((bigSep Finset.univ fun ck : Dev nD × Option Own => cellInv ER (Rd m) (K ck) (kcell ck)) ∗ bigSep Finset.univ fun ck : Dev nD × Option Own => reached ER (kcell ck) 0)
instance Recs_persistent (K : Dev nD × Option Own → ℕ) : BI.Persistent (Recs m K) := by unfold Recs; infer_instance

def G' (c : Dev nD) : sProp 𝕄 := iprop(∃ K, Recs m K ∗ Hold c)

theorem one (K : Dev nD × Option Own → ℕ) (c : Dev nD) : iprop(Recs m K ∗ Hold c) ⊢ G' m c := by
  unfold G'
  iintro H
  iexists K; iexact H

theorem regroup : (bigSep Finset.univ fun c : Dev nD => iprop((bigSep Finset.univ fun k => iprop(∃ κ : ℕ, cellInv ER (Rd m) κ (kcell (c, k))))
        ∗ ((bigSep Finset.univ fun k : Option Own => atPos ER (kcell (c, k)) 0 ∅ 0) ∗ bigSep Finset.univ fun k : Option Own => reached ER (kcell (c, k)) 0) ∗ minted c) : sProp 𝕄)
    ⊢ bigSep Finset.univ (G' m) := by
  rw [bigSep_sep', bigSep_sep', bigSep_sep', ← bigSep_univ_prod (fun ck : Dev nD × Option Own => iprop(∃ κ : ℕ, cellInv ER (Rd m) κ (kcell ck))),
    ← bigSep_univ_prod (fun ck : Dev nD × Option Own => (reached ER (kcell ck) 0 : sProp 𝕄))]
  iintro ⟨HI, ⟨Hat, #HR⟩, Ht⟩
  ihave HK := (BI.bigSep_exists_pi Finset.univ (fun (ck : Dev nD × Option Own) (κ : ℕ) => (cellInv ER (Rd m) κ (kcell ck) : sProp 𝕄))) $$ HI
  icases HK with ⟨%K, #HI⟩
  ihave Hh := (around (F := F)) $$ [Hat Ht]
  · isplitl [Hat] <;> iassumption
  have hpers : iprop(Recs m K ∗ bigSep Finset.univ fun c : Dev nD => Hold c) ⊢ bigSep Finset.univ (G' m) := by
    refine (sep_mono_left (BI.bigSep_of_persistent (Finset.univ : Finset (Dev nD)) (Recs m K))).trans ?_
    rw [← bigSep_sep']
    exact bigSep_mono fun c _ => one m K c
  iapply hpers
  isplitr
  · unfold Recs; isplitl; · iexact HI
    iexact HR
  iexact Hh

theorem glob : (bigSep Finset.univ fun c => iprop(ownSems c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit for what the others owe -/

/-- One family of them: each device owes the cells of the one across. -/
theorem creds_family (f : Dev nD → Dev nD) (hf : ∀ d, f (f d) = d) (o : Fin 17 → Own) (c : Dev nD) :
    (bigSep Finset.univ fun j => Pipeline.launchCred (fun d => tallyAt (cell (f d) (o j)) () (amt (o j))) c : sProp 𝕄)
      ⊢ bigSep Finset.univ fun j => cred (tallyAt (cell c (o j)) () (amt (o j))) :=
  bigSep_mono fun j _ => Pipeline.launchCred_tallyAt (osem (o j)) f f hf hf () (amt (o j)) c

theorem creds (c : Dev nD) : (Pipeline.launchCred O₀ c : sProp 𝕄)
    ⊢ iprop(cred (tallyAt (barCell c) () 2) ∗ (bigSep Finset.univ fun j => cred (tallyAt (cell c (oXR j)) () (amt (oXR j))))
        ∗ bigSep Finset.univ fun j => cred (tallyAt (cell c (oYR j)) () (amt (oYR j)))) := by
  have hall : Finset.univ.filter (fun i : Fin 17 => 0 ≤ i.val) = Finset.univ := Finset.filter_true_of_mem fun i _ => Nat.zero_le _
  have hO : (O₀ : Dev nD → CellTallies nD τ sig Unit) = fun d => (((∑ i : Fin 17, tallyAt (cell (xp d) (oXR i)) () (amt (oXR i))) + ∑ i : Fin 17, tallyAt (cell (yp d) (oYR i)) () (amt (oYR i)))
      + tallyAt (barCell (yp d)) () 1) + tallyAt (barCell (xp d)) () 1 := by
    funext d; unfold O₀ O₁ due dueX dueY; rw [hall]
  rw [hO, Pipeline.launchCred_add, Pipeline.launchCred_add, Pipeline.launchCred_add, Pipeline.launchCred_sum, Pipeline.launchCred_sum]
  iintro ⟨⟨⟨HX, HY⟩, H1⟩, H2⟩
  ihave H1 := (Pipeline.launchCred_tallyAt (SemLoc.reg barS.sem) yp yp yp_yp yp_yp () 1 c) $$ H1
  ihave H2 := (Pipeline.launchCred_tallyAt (SemLoc.reg barS.sem) xp xp xp_xp xp_xp () 1 c) $$ H2
  isplitl [H1 H2]
  · rw [show tallyAt (barCell c) () 2 = tallyAt (barCell c) () 1 + (tallyAt (barCell c) () 1 : CellTallies nD τ sig Unit) from (tallyAt_add (barCell c) () 1 1).symm]
    iapply (cred_add _ _).2
    isplitl [H1] <;> iassumption
  isplitl [HX]
  · iapply (creds_family xp xp_xp oXR c); iexact HX
  · iapply (creds_family yp yp_yp oYR c); iexact HY

/-! ## The body on a device -/

/-- The six buffers of a device. -/
def Bufs (c : Dev nD) : sProp 𝕄 :=
  iprop(free (lAf c) Finset.univ ∗ free (lAb c) Finset.univ ∗ free (lBd c) Finset.univ ∗ free (lSend c) Finset.univ ∗ free (lRecv c) Finset.univ ∗ free (lR c) Finset.univ)

theorem bufs_eq (c : Dev nD) : (Pipeline.scopedRest cfg0.spec c : sProp 𝕄) = Bufs c := by
  have h (ℓ : Loc nD τ sig) : iprop(∃ f : Buf (Elt F) ℓ, ℓ ↦{fullShare} f) = (free ℓ Finset.univ : sProp 𝕄) := by
    refine BI.Entails.antisymm (show iprop(∃ f : Buf (Elt F) ℓ, ℓ ↦{fullShare} f) ⊢ (free ℓ Finset.univ : sProp 𝕄) from ?_)
      (show (free ℓ Finset.univ : sProp 𝕄) ⊢ iprop(∃ f : Buf (Elt F) ℓ, ℓ ↦{fullShare} f) from ?_)
    · iintro ⟨%f, H⟩
      iapply (held_intro (P := fun _ => True) trivial); iexact H
    · iintro H
      ihave H := held_ex $$ H
      icases H with ⟨%f, -, H⟩
      iexists f; iexact H
  rw [scopedRest0_eq, h, h, h, h, h, h]; rfl

/-- What a device goes in with, but for its buffers and what it owes; -/
def X (c : Dev nD) : sProp 𝕄 := iprop(∃ K, Ctx m K ∗ (Bufs c ∗ Owes c (O₀ c) -∗ Start m c))
/-- and what of it comes out. -/
def Y (c : Dev nD) : sProp 𝕄 :=
  iprop(unscopedSems0 c ∗ argA m c fullShare ∗ argB m c fullShare ∗ held (lOut c) Finset.univ fullShare (outOK m c))

theorem start_intro (c : Dev nD) : iprop(Hold c ∗ (cred (tallyAt (barCell c) () 2) ∗ (bigSep Finset.univ fun j => cred (tallyAt (cell c (oXR j)) () (amt (oXR j))))
        ∗ bigSep Finset.univ fun j => cred (tallyAt (cell c (oYR j)) () (amt (oYR j))))
      ∗ argA m c fullShare ∗ argB m c fullShare ∗ free (lOut c) Finset.univ)
    ⊢ iprop(Bufs c ∗ Owes c (O₀ c) -∗ Start m c) := by
  unfold Hold Start famB famXS famXR famYR Bufs
  rw [family_fresh, family_fresh, family_out, family_out]
  iintro ⟨⟨⟨Hx, Hy, HaN⟩, HA, HB, HXS, HaX, HY, HaY⟩, ⟨HcN, HcX, HcY⟩, Ha, Hb, Ho⟩ ⟨HF, HO⟩
  isplitl [HA HB HXS HaX HY HaY HcX HcY]
  · isplitl [HA]; · iexact HA
    isplitl [HB]; · iexact HB
    isplitl [HXS]; · iexact HXS
    isplitl [HaX HcX]
    · unfold pend; rw [bigSep_sep']
      isplitl [HcX] <;> iassumption
    isplitl [HY]; · iexact HY
    unfold pend; rw [bigSep_sep']
    isplitl [HcY] <;> iassumption
  isplitl [Hx Hy HcN HaN]
  · isplitl [Hx]; · iexact Hx
    isplitl [Hy]; · iexact Hy
    isplitl [HcN] <;> iassumption
  isplitl [Ha Hb Ho]
  · isplitl [Ha]; · iexact Ha
    isplitl [Hb] <;> iassumption
  isplitl [HF] <;> iassumption

theorem hX (c : Dev nD) : iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G' X
  iintro ⟨⟨Ha, Hb, Ho⟩, #Hl, Hc, -, ⟨%K, #HR, Hh⟩⟩
  ihave Hc := (creds (F := F) c) $$ Hc
  imodintro
  isplitl
  · iexists K
    isplitr
    · unfold Ctx Recs
      icases HR with ⟨HI, HR⟩
      isplitr; · iexact HI
      isplitr; · iexact HR
      iexact Hl
    iapply (start_intro m c)
    isplitl [Hh]; · iexact Hh
    isplitl [Hc]; · iexact Hc
    isplitl [Ha]; · iexact Ha
    isplitl [Hb]; · iexact Hb
    iapply (held_intro (P := fun _ => True) trivial); iexact Ho
  iempintro

/-- The cells close: their counters, at zero, are the device's again. -/
theorem close (K : Dev nD × Option Own → ℕ) (c : Dev nD) : iprop(Ctx m K ∗ (bigSep Finset.univ fun o : Own => ended c o) ∗ atPos ER (barCell c) 1 ∅ 0)
    ⊢ |={Set.univ}=> iprop(unscopedSems0 c ∗ ownSems c) := by
  have h1 (k : Option Own) : iprop(Ctx m K ∗ atPos ER (kcell (c, k)) 1 ∅ 0) ⊢ (|={Set.univ}=> semVal (kcell (c, k)) 0 : sProp 𝕄) :=
    (sep_mono_left (ctx_inv m K (c, k))).trans (Rounds.cell_close ER (Rd m) (Set.mem_univ (K (c, k))) (fun h => h) (R := 1) (duties_later m (kcell (c, k))))
  have h2 : iprop(Ctx m K ∗ bigSep Finset.univ fun k : Option Own => atPos ER (kcell (c, k)) 1 ∅ 0)
      ⊢ (|={Set.univ}=> bigSep Finset.univ fun k : Option Own => semVal (kcell (c, k)) 0 : sProp 𝕄) := by
    refine (sep_mono_left (BI.bigSep_of_persistent (Finset.univ : Finset (Option Own)) (Ctx m K))).trans ?_
    rw [← bigSep_sep']
    exact (bigSep_mono fun k _ => h1 k).trans (bigSep_fupd _ _)
  rw [← counters_eq]
  iintro ⟨HC, He, Hb⟩
  iapply h2
  isplitl [HC]; · iexact HC
  rw [opt_sep]
  isplitl [Hb]; · iexact Hb
  iexact He

def Φ₁ (c : Dev nD) : sProp 𝕄 := iprop(Y m c ∗ ownSems c ∗ Bufs c)

def dats (_ : Fin 1) (c : Dev nD) : Dat τ (Elt F) Unit ℕ UU ℕ cfg0 c where
  A w := w.elim0
  after w _ := w.elim0
  Φ t := match t with
    | ⟨0, _⟩ => iprop(X m c ∗ Bufs c)
    | ⟨_ + 1, _⟩ => Φ₁ m c
  q _ := fullShare
  owed t := match t with
    | ⟨0, _⟩ => O₀ c
    | ⟨_ + 1, _⟩ => 0

theorem body_run (c : Dev nD) (Kt : PUnit → sProp 𝕄) : iprop((X m c ∗ Bufs c) ∗ Owes c (O₀ c)) ⊢ iprop((Φ₁ m c ∗ Owes c 0 -∗ Kt ⟨⟩) -∗ wpc c Kt bodyProg) := by
  unfold X
  iintro ⟨⟨⟨%K, #HC, HS⟩, HF⟩, HO⟩ Hk
  ispecialize HS $$ [HF HO]
  · isplitl [HF] <;> iassumption
  iapply (wp_body m K c Kt) $$ [HS]
  · isplitr; · iexact HC
    iexact HS
  unfold End Φ₁ Y Bufs
  iintro ⟨He, ⟨Ha, Hb, Ho⟩, HF, HO⟩
  imod (close m K c) $$ [He] with ⟨Hu, Hs⟩
  · isplitr; · iexact HC
    iexact He
  rw [wp_ret]; imodintro
  iapply Hk
  isplitl [Hu Hs Ha Hb Ho HF]
  · isplitl [Hu Ha Hb Ho]
    · isplitl [Hu]; · iexact Hu
      isplitl [Ha]; · iexact Ha
      isplitl [Hb] <;> iassumption
    isplitl [Hs] <;> iassumption
  iexact HO

set_option maxRecDepth 100000 in
theorem body_obligation (c : Dev nD) : BodyObligation (dats m 0 c) (defs₀ (F := F)) 𝒱₀ () Set.univ := fun t => by
  rw [fin_N0 t]
  show iprop((X m c ∗ Bufs c) ∗ Pipeline.owesWithin c (O₀ c) _ ∗ _) ⊢ wp frame (wpE (defs₀ (F := F)) 𝒱₀ (c : Thread nD τ) none) Set.univ (bodyAt0 t0_0)
    (fun _ => iprop(Φ₁ m c ∗ Pipeline.owesWithin c 0 _ ∗ _))
  rw [body_eq]
  iintro ⟨HX, ⟨%W, -, HO⟩, -⟩
  iapply (body_run m c) $$ [HX HO]
  · isplitl [HX]; · iexact HX
    unfold Owes; iexists W; iexact HO
  unfold Owes
  iintro ⟨HΦ, %W', HO⟩
  isplitl [HΦ]; · iexact HΦ
  isplitl [HO]
  · iexists W'
    isplitr; · ipureintro; exact fun _ _ => Or.inl trivial
    iexact HO
  iempintro

/-! ## The run -/

/-- What a device's memory holds at the end. -/
def Left (c : Dev nD) (s : MemSt nD τ sig (Elt F)) : Prop :=
  s.mem (lA c) = m (lA c) ∧ s.mem (lB c) = m (lB c) ∧ outOK m c (s.mem (lOut c))
    ∧ ∀ sm : SemLoc sig, sm.isScoped .tc = false → s.sem ((c.tc : Thread nD τ), sm) = 0

theorem left_read (c : Dev nD) (s' : Phys nD τ sig (Elt F)) : iprop(Y m c ∗ emp ∗ SI s') ⊢ (|={Set.univ}=> iprop(⌜Left m c s'.mem⌝ ∗ SI s') : sProp 𝕄) := by
  unfold Y
  iintro ⟨⟨Hu, Ha, Hb, Ho⟩, -, HSI⟩
  imod (Pipeline.unscopedSems0_read (X := unscopedSems0 c) (c := c) fupd_intro s') $$ [Hu HSI] with ⟨%hu, HSI⟩
  · isplitl [Hu] <;> iassumption
  ihave %ha := (SI_pointsTo_agree (st := s') (ℓ := lA c)) $$ [HSI Ha]
  · isplitl [HSI] <;> iassumption
  ihave %hb := (SI_pointsTo_agree (st := s') (ℓ := lB c)) $$ [HSI Hb]
  · isplitl [HSI] <;> iassumption
  ihave Ho := held_ex $$ Ho
  icases Ho with ⟨%f, %hf, Ho⟩
  ihave %ho := (SI_pointsTo_agree (st := s') (ℓ := lOut c)) $$ [HSI Ho]
  · isplitl [HSI] <;> iassumption
  imodintro
  isplitr
  · ipureintro
    have he : s'.mem.mem (lOut c) = f := funext fun i => ho i (Finset.mem_univ i)
    exact ⟨funext fun i => ha i (Finset.mem_univ i), funext fun i => hb i (Finset.mem_univ i), he ▸ hf, hu⟩
  iexact HSI

set_option maxRecDepth 8000 in
/-- The run: every execution ends, each device's arguments are as they were, its result holds every device row's sums,
    and every counter is at zero. -/
theorem run_main : θ_run defs (onTc (τ := τ) (main (F := F))) ⟨m, fun _ => 0, ρ⟩ (fun r =>
    (∀ c : Dev nD, r.2.mem (lA c) = m (lA c) ∧ r.2.mem (lB c) = m (lB c) ∧ outOK m c (r.2.mem (lOut c))) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := fun c => (body_obligation m c).loose) (hne := fun w => w.elim0) (harr := arr_whole0) (hstage := stage_whole0)
    (hshare := fun c w => w.elim0) (hdistinct := winFacts0.arr_inj)
    (O₀ := O₀) (howed₀ := fun _ => rfl) (howedN := fun _ => rfl) (L := L) (lv := lv) (hL := L_of_ne)
    (hwaits := fun c => Pipeline.cellsWaits_intro cfgs (dats m) () 0 c fun w s t => w.elim0)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m) (hA := fun _ w => w.elim0) (hpf := fun _ k => k.elim0)
    (X := X m) (Y := Y m) (Z := fun _ => iprop(emp))
    (hX := hX m ρ)
    (hin := fun c => by
      show _ ⊢ iprop(X m c ∗ Bufs c)
      rw [← bufs_eq]
      iintro ⟨HX, -, HF⟩
      isplitl [HX] <;> iassumption)
    (hout := fun c => by
      show Φ₁ m c ⊢ _
      rw [bufs_eq]
      exact .rfl)
    (QY := Left m) (hY := left_read m)
    (hQ := fun _ h hs => ⟨fun c => ⟨(h c).2.2.1, (h c).2.2.2.1, (h c).2.2.2.2.1⟩, sem_eq_zero hs fun c => (h c).2.2.2.2.2⟩)

end Cert.KernelIdeal.Proto

end
-- ==== Proof.Halves.lean ====
/- A contraction over 4096 positions as two contractions over 2048. -/
module

public import Idealize.ShloMosaic.PureOps.Ideal.Laws
public import Idealize.ShloMosaic.Lib.ValueIdxCore

@[expose] public section

noncomputable section

namespace Cert.Halves

open Idealize.ShloMosaic Idealize.ShloMosaic.ValueIdx
open scoped BigOperators

abbrev Sq : Shape := ⟨2, ![4096, 4096]⟩

/-- Position `k` of half `h` of the contracted axis. -/
def at2 (h : ℕ) (hh : h < 2) (k : Fin 2048) : Fin 4096 := ⟨2048 * h + k.val, by have := k.isLt; omega⟩

/-- Row `r` of `a` against column `c` of `b`, over one half of the contracted axis, and over all of it. -/
def half (a b : Sq.Idx → EReal) (r c : Fin 4096) (h : ℕ) (hh : h < 2) : EReal :=
  ∑ k : Fin 2048, a (ix2 r (at2 h hh k)) * b (ix2 (at2 h hh k) c)
def whole (a b : Sq.Idx → EReal) (r c : Fin 4096) : EReal := ∑ k : Fin 4096, a (ix2 r k) * b (ix2 k c)

theorem whole_eq (a b : Sq.Idx → EReal) (r c : Fin 4096) :
    whole a b r c = half a b r c 0 (by decide) + half a b r c 1 (by decide) := by
  have h := Fin.sum_univ_add (a := 2048) (b := 2048) fun k : Fin 4096 => a (ix2 r k) * b (ix2 k c)
  refine h.trans (congr (congrArg _ (Finset.sum_congr rfl fun k _ => ?_)) (Finset.sum_congr rfl fun k _ => ?_))
  · have e : Fin.castAdd 2048 k = at2 0 (by decide) k := Fin.ext (by show k.val = 2048 * 0 + k.val; omega)
    rw [e]
  · have e : Fin.natAdd 2048 k = at2 1 (by decide) k := Fin.ext (by show 2048 + k.val = 2048 * 1 + k.val; omega)
    rw [e]

/-- The two halves in either order. -/
theorem halves (a b : Sq.Idx → EReal) (r c : Fin 4096) (h h' : ℕ) (hh : h < 2) (hh' : h' < 2) (e : h' = 1 - h) :
    half a b r c h hh + half a b r c h' hh' = whole a b r c := by
  rw [whole_eq]
  obtain rfl | rfl := (by omega : h = 0 ∨ h = 1)
  · subst e; rfl
  · subst e; exact add_comm _ _

end Cert.Halves

end
-- ==== Proof.Ideal.Equation.lean ====
/- What the result holds, over the extended reals: the whole product, at every position and on every device. -/
module

public import proofs.«01_k».proof.Proof.Ideal.Cover
public import proofs.«01_k».proof.Proof.Halves
public import Idealize.ShloMosaic.Lib.Layout
public import Idealize.ShloMosaic.Lib.MatmulPlain

@[expose] public section

noncomputable section

namespace Cert.KernelIdeal.Proto

open Idealize.ShloMosaic Idealize.ShloMosaic.TcCoe Idealize.ShloMosaic.ValueIdx
open Cert.KernelIdeal.Gen Cert.Halves
open scoped BigOperators

variable (m : (ℓ : Loc nD τ sig) → Buf (Elt Ideal) ℓ) (a b : Sq.Idx → EReal)

/-- The whole matrices `a` and `b` dealt to the devices: each holds its half of `a`'s columns and of `b`'s rows. -/
def Dealt : Prop := ∀ c : Dev nD,
  m (lA c) = Layout.blockN ⟨2, ![4096, 2048]⟩ ⟨2, ![4096, 4096]⟩ (Layout.meshBlock [2, 2] ![[], [0]] c) a
  ∧ m (lB c) = Layout.blockN ⟨2, ![2048, 4096]⟩ ⟨2, ![4096, 4096]⟩ (Layout.meshBlock [2, 2] ![[0], []] c) b

/-- The half of the contracted axis a device holds. -/
theorem side_lt (c : Dev nD) : c.val / 2 < 2 := by have : c.val < 4 := c.isLt; omega
theorem side_xp : ∀ c : Dev nD, (xp c).val / 2 = 1 - c.val / 2 := by decide
theorem row_xp : ∀ c : Dev nD, (xp c).val % 2 = c.val % 2 := by decide
theorem cut_x : ∀ c : Dev nD, Layout.meshLin [2, 2] c.val [0] = c.val / 2 := by decide

variable {m a b}

theorem argA_at (h : Dealt m a b) (c : Dev nD) (r : Fin 4096) (k : Fin 2048) :
    (m (lA c) : S4096x2048.Idx → EReal) (ix2 r k) = a (ix2 r (at2 (c.val / 2) (side_lt c) k)) := by
  rw [(h c).1, Layout.blockN_apply]
  refine congrArg a (funext fun x => Fin.ext ?_)
  rw [Layout.TilesN.idx_val]
  fin_cases x
  · show Layout.meshLin [2, 2] c.val [] * 4096 + r.val = r.val
    exact (congrArg (· + r.val) (Nat.zero_mul 4096)).trans (Nat.zero_add _)
  · show Layout.meshLin [2, 2] c.val [0] * 2048 + k.val = 2048 * (c.val / 2) + k.val
    rw [cut_x]; omega
theorem argB_at (h : Dealt m a b) (c : Dev nD) (k : Fin 2048) (r : Fin 4096) :
    (m (lB c) : S2048x4096.Idx → EReal) (ix2 k r) = b (ix2 (at2 (c.val / 2) (side_lt c) k) r) := by
  rw [(h c).2, Layout.blockN_apply]
  refine congrArg b (funext fun x => Fin.ext ?_)
  rw [Layout.TilesN.idx_val]
  fin_cases x
  · show Layout.meshLin [2, 2] c.val [0] * 2048 + k.val = 2048 * (c.val / 2) + k.val
    rw [cut_x]; omega
  · show Layout.meshLin [2, 2] c.val [] * 4096 + r.val = r.val
    exact (congrArg (· + r.val) (Nat.zero_mul 4096)).trans (Nat.zero_add _)

/-- The position in the whole result of a chunk's position. -/
def rowOf (d : Dev nD) (r : Fin 2048) : Fin 4096 := ⟨2048 * (d.val % 2) + r.val, by have := r.isLt; omega⟩
def colOf (j : Fin 17) (q : Fin (wid j.val)) : Fin 4096 := ⟨col j.val + q.val, by have := q.isLt; have := col_add_le j; omega⟩

theorem A16_at (h : Dealt m a b) (d : Dev nD) (r k : Fin 2048) :
    (A16 m d : S2048x2048.Idx → EReal) (ix2 r k) = a (ix2 (rowOf d r) (at2 (d.val / 2) (side_lt d) k)) := by
  rw [← argA_at h]
  refine congrArg (m (lA d) : S4096x2048.Idx → EReal) (?_ : (rowsA d).emb (ix2 r k) = _)
  funext x
  fin_cases x
  · exact Fin.ext (by show 2048 * (d.val % 2) + 1 * r.val = 2048 * (d.val % 2) + r.val; omega)
  · exact Fin.ext (by show 0 + 1 * k.val = k.val; omega)
theorem B_at (h : Dealt m a b) (d : Dev nD) (j : Fin 17) (k : Fin 2048) (q : Fin (wid j.val)) :
    ((bSrc j).view.read (Elt Ideal) (m (lB d)) : (P2 (wid j.val)).Idx → EReal) (ix2 k q) = b (ix2 (at2 (d.val / 2) (side_lt d) k) (colOf j q)) := by
  rw [← argB_at h]
  refine congrArg (m (lB d) : S2048x4096.Idx → EReal)
    (?_ : (Rect.unit (s := S2048x4096) ![0, col j.val] (P2 (wid j.val)).size (inbB j)).emb (ix2 k q) = _)
  funext x
  fin_cases x
  · exact Fin.ext (by show 0 + 1 * k.val = k.val; omega)
  · exact Fin.ext (by show col j.val + 1 * q.val = col j.val + q.val; omega)

/-- A device's product for a chunk, as a matrix: the half it holds. -/
theorem V_at (h : Dealt m a b) (d : Dev nD) (j : Fin 17) (r : Fin 2048) (q : Fin (wid j.val)) :
    (shapeCast (P2 (wid j.val)) (V m d j) (p3_casts _ (wid_cases j)) : (P2 (wid j.val)).Idx → EReal) (ix2 r q)
      = half a b (rowOf d r) (colOf j q) (d.val / 2) (side_lt d) := by
  unfold V prodW B3
  rw [shapeCast_shapeCast, shapeCast_shapeCast]
  refine (Ideal.matmul_plain_apply (φ₁ := .bf16) (φ₂ := .bf16) none (A16 m d) _ _ r q).trans ?_
  rw [show constant (F := Ideal) (P2 (wid j.val)) .f32 0x00000000#32 (ix2 r q) = (0 : EReal) from Ideal.ofBits_zero_f32]
  refine (zero_add (_ : EReal)).trans (Finset.sum_congr rfl fun k _ => ?_)
  exact congr (congrArg _ (A16_at h d r k)) (B_at h d j k q)

/-- The sum of the two devices' products: the whole contraction. -/
theorem R2_at (h : Dealt m a b) (d : Dev nD) (j : Fin 17) (r : Fin 2048) (q : Fin (wid j.val)) :
    (R2 m d j : (P2 (wid j.val)).Idx → EReal) (ix2 r q) = whole a b (rowOf d r) (colOf j q) := by
  unfold R2 R sumW
  rw [shapeCast_shapeCast]
  have e : rowOf (xp d) r = rowOf d r := Fin.ext (by show 2048 * ((xp d).val % 2) + _ = 2048 * (d.val % 2) + _; rw [row_xp])
  refine (congr (congrArg (fun x y : EReal => x + y) (V_at h d j r q)) (V_at h (xp d) j r q)).trans ?_
  rw [e]
  exact halves a b _ _ _ _ (side_lt d) (side_lt (xp d)) (side_xp d)

/-- Where a chunk's position is in the result. -/
theorem outAt_at (d : Dev nD) (j : Fin 17) (f : S4096x4096.Idx → Elt Ideal .bf16) (r : Fin 2048) (q : Fin (wid j.val)) :
    ((outAt d j).view.read (Elt Ideal) f : (P2 (wid j.val)).Idx → EReal) (ix2 r q) = f (ix2 (rowOf d r) (colOf j q)) := by
  refine congrArg f (?_ : (Rect.unit (s := S4096x4096) (outOff d j) (P2 (wid j.val)).size (inbOut d j)).emb (ix2 r q) = _)
  have ho := outOff_eq d j
  funext x
  fin_cases x
  · exact Fin.ext (by
      show outOff d j 0 + 1 * r.val = 2048 * (d.val % 2) + r.val
      rw [ho]; show 2048 * (d.val % 2) + 1 * r.val = _; omega)
  · exact Fin.ext (by
      show outOff d j 1 + 1 * q.val = col j.val + q.val
      rw [ho]; show col j.val + 1 * q.val = _; omega)

/-- The result holds the whole product. -/
theorem out_whole (h : Dealt m a b) (c : Dev nD) (f : S4096x4096.Idx → Elt Ideal .bf16) (hf : outOK m c f) (i j : Fin 4096) :
    f (ix2 i j) = whole a b i j := by
  obtain ⟨⟨s, t⟩, hx⟩ := outReg_cover c (ix2 i j)
  obtain ⟨h1, h2⟩ := (mem_outAt _ _ _).mp hx
  have h1' : i.val / 2048 = (rowDev c s).val % 2 := h1
  have h2' : (j.val + 128) / 256 = t.val := h2
  have hc := col_add_wid t
  have e1 : col t.val = 256 * t.val - 128 := by unfold col; rw [if_pos t.isLt]
  have e2 : col (t.val + 1) = if t.val + 1 < 17 then 256 * (t.val + 1) - 128 else 4096 := rfl
  have hj := j.isLt
  have hq : j.val - col t.val < wid t.val := by
    have : j.val < col (t.val + 1) := by rw [e2]; split <;> omega
    omega
  have er : rowOf (rowDev c s) ⟨i.val % 2048, Nat.mod_lt _ (by decide)⟩ = i :=
    Fin.ext (by show 2048 * ((rowDev c s).val % 2) + i.val % 2048 = i.val; omega)
  have eq : colOf t ⟨j.val - col t.val, hq⟩ = j := Fin.ext (by show col t.val + (j.val - col t.val) = j.val; omega)
  have e := (outAt_at _ t f _ _).symm.trans
    ((congrFun (hf s t) (ix2 ⟨i.val % 2048, Nat.mod_lt _ (by decide)⟩ ⟨j.val - col t.val, hq⟩)).trans (R2_at h _ t _ _))
  rw [er, eq] at e
  exact e

end Cert.KernelIdeal.Proto

end
-- ==== Proof.lean ====
/- The claims: each program's frame from its run, the idealized kernel against the reference by the run's result
   (Proof/Ideal/Equation.lean) and the reference's, both the whole product at every position. The run itself is
   Proof/Ideal/Launch.lean, over any floats; Proof/Bits has the same modules for the kernel as launched. -/
module

public import proofs.«01_k».proof.Defs
public import proofs.«01_k».proof.Proof.Bits.Launch
public import proofs.«01_k».proof.Proof.Ideal.Launch
public import proofs.«01_k».proof.Proof.Ideal.Equation
public import proofs.«01_k».proof.Proof.Gen.ReferenceIdeal
public import proofs.«01_k».proof.Proof.Gen.ReferenceIdeal.Run
public import Idealize.ShloMosaic.Lib.StackMember
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ =>
  (θ_run Cert.Kernel.defs _ _).mono (fun _ h => ⟨fun c => ⟨(h.1 c).1, (h.1 c).2.1⟩, h.2⟩) (Cert.Kernel.Proto.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩)
    (Cert.KernelIdeal.Proto.run_main (F := Ideal) m ρ)

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The reference's result at a position: the whole contraction of the arguments. -/
theorem reference_at (a b : Cert.Halves.Sq.Idx → EReal) (i j : Fin 4096) :
    Host.dotGeneral (F := Ideal) (φ₁ := .bf16) (φ₂ := .bf16) Cert.ReferenceIdeal.dot_S4096x4096_S4096x4096_S4096x4096_1_0_0_1_n_n none a b (ValueIdx.ix2 i j)
      = Cert.Halves.whole a b i j :=
  StackMember.dotGeneral_plain_apply (φ₁ := .bf16) (φ₂ := .bf16) none a b i j

theorem algebraic : Cert.algebraic_KernelIdeal_ReferenceIdeal := by
  intro m ρ m' ρ' _ hd
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨?_, (h.1 c).1, (h.1 c).2.1⟩) (Cert.KernelIdeal.Proto.run_main (F := Ideal) m ρ)
  funext x
  rw [ValueIdx.eq_ix2 x]
  exact (Cert.KernelIdeal.Proto.out_whole hd c _ (h.1 c).2.2 _ _).trans (reference_at _ _ _ _).symm

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
